-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v4_5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v2_4) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v39) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_v35) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite8 : Cert.Pre_finite8.Facts) (hPre_finite9 : Cert.Pre_finite9.Facts) (hPre_finite10 : Cert.Pre_finite10.Facts) (hPre_finite15 : Cert.Pre_finite15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite10.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) (main_arg3 : FVec F S1024x1024 .bf16) : IVec S4096x1024 1 × IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite15.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4x2x4096x704 : S_.BroadcastsInDim S4x2x4096x704 (![] : Fin 0 → Fin S4x2x4096x704.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4x2x4096x704 .bf16) (main_arg1 : FVec F S1024x5632 .bf16) (main_arg2 : FVec F S4096x1024 .f32) (main_arg3 : FVec F S1x1024 .f32) (main_arg4 : FVec F S4096x1024 .f32) : IVec S4x2x4096x704 1 × IVec S1024x5632 1 × IVec S4096x1024 1 × IVec S1x1024 1 :=
  let main_v0 : FVec F S4x2x4096x704 .f32 := (extf .f32 · bitsLt_bf16_f32) main_arg0
  let main_v1 : FVec F S4x2x4096x704 .f32 := Host.absf main_v0
  let main_cst : FVec F S_ .f32 := constant S_ .f32 0x7F800000#32
  let main_v2 : FVec F S4x2x4096x704 .f32 := broadcastInDim S4x2x4096x704 ![] bcast_S_S4x2x4096x704 main_cst
  let main_v3 : IVec S4x2x4096x704 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_finite8.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4x2x4096x704 : S_.BroadcastsInDim S4x2x4096x704 (![] : Fin 0 → Fin S4x2x4096x704.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4x2x4096x704 .bf16) (main_arg1 : FVec F S1024x5632 .bf16) (main_arg2 : FVec F S4096x1024 .f32) (main_arg3 : FVec F S1x1024 .f32) (main_arg4 : FVec F S4096x1024 .f32) : IVec S4x2x4096x704 1 × IVec S1024x5632 1 × IVec S4096x1024 1 × IVec S1x1024 1 :=
  let main_v0 : FVec F S4x2x4096x704 .f32 := (extf .f32 · bitsLt_bf16_f32) main_arg0
  let main_v1 : FVec F S4x2x4096x704 .f32 := Host.absf main_v0
  let main_cst : FVec F S_ .f32 := constant S_ .f32 0x7F800000#32
  let main_v2 : FVec F S4x2x4096x704 .f32 := broadcastInDim S4x2x4096x704 ![] bcast_S_S4x2x4096x704 main_cst
  let main_v3 : IVec S4x2x4096x704 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_finite9.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S1024x2816 : S_.BroadcastsInDim S1024x2816 (![] : Fin 0 → Fin S1024x2816.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S1024x2816 .bf16) (main_arg2 : FVec F S4096x1024 .f32) (main_arg3 : FVec F S1x1024 .f32) (main_arg4 : FVec F S4096x1024 .f32) : IVec S4096x2816 1 × IVec S1024x2816 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S1024x2816 .f32 := (extf .f32 · bitsLt_bf16_f32) main_arg1
  let main_v5 : FVec F S1024x2816 .f32 := Host.absf main_v4
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S4096x512 : Shape := ⟨2, ![4096, 512]⟩
abbrev S64x8x64x64 : Shape := ⟨4, ![64, 8, 64, 64]⟩
abbrev S512x512 : Shape := ⟨2, ![512, 512]⟩
abbrev S8x8x64x64 : Shape := ⟨4, ![8, 8, 64, 64]⟩
abbrev S8x64x64 : Shape := ⟨3, ![8, 64, 64]⟩
abbrev S1x8x64x64 : Shape := ⟨4, ![1, 8, 64, 64]⟩
abbrev S64x64 : Shape := ⟨2, ![64, 64]⟩
abbrev S1x64x64 : Shape := ⟨3, ![1, 64, 64]⟩
abbrev S64x512 : Shape := ⟨2, ![64, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S64x8x64x64, .f32⟩
  | .hbm, ⟨3, _⟩ => ⟨S64x8x64x64, .f32⟩
  | .hbm, ⟨4, _⟩ => ⟨S4096x512, .f32⟩
  | .hbm, ⟨5, _⟩ => ⟨S64x8x64x64, .f32⟩
  | .hbm, ⟨6, _⟩ => ⟨S64x8x64x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x8x64x64, .f32⟩
  | .local _ .vmem, ⟨5, _⟩ => ⟨S8x8x64x64, .f32⟩
  | .local _ .vmem, ⟨6, _⟩ => ⟨S8x8x64x64, .f32⟩
  | .local _ .vmem, ⟨7, _⟩ => ⟨S8x8x64x64, .f32⟩
  | .local _ .vmem, ⟨8, _⟩ => ⟨S512x512, .f32⟩
  | .local _ .vmem, ⟨9, _⟩ => ⟨S512x512, .f32⟩
  | .local _ .vmem, ⟨10, _⟩ => ⟨S8x8x64x64, .f32⟩
  | .local _ .vmem, ⟨11, _⟩ => ⟨S8x8x64x64, .f32⟩
  | .local _ .vmem, ⟨12, _⟩ => ⟨S8x8x64x64, .f32⟩
  | .local _ .vmem, ⟨13, _⟩ => ⟨S8x8x64x64, .f32⟩
  | .local _ .vmem, ⟨14, _⟩ => ⟨S8x64x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x512 : Shape := ⟨2, ![4096, 512]⟩
abbrev S64x8x64x64 : Shape := ⟨4, ![64, 8, 64, 64]⟩
abbrev S_ : Shape := ⟨0, ![]⟩
abbrev S8x64x64 : Shape := ⟨3, ![8, 64, 64]⟩
abbrev S64x64x8x64 : Shape := ⟨4, ![64, 64, 8, 64]⟩
abbrev S1x64x8x64 : Shape := ⟨4, ![1, 64, 8, 64]⟩
abbrev S64x8x64 : Shape := ⟨3, ![64, 8, 64]⟩
abbrev S1x8x64x64 : Shape := ⟨4, ![1, 8, 64, 64]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S64x8x64x64, .f32⟩
  | .hbm, ⟨3, _⟩ => ⟨S64x8x64x64, .f32⟩
  | .hbm, ⟨4, _⟩ => ⟨S_, .f32⟩
  | .hbm, ⟨5, _⟩ => ⟨S8x64x64, .f32⟩
  | .hbm, ⟨6, _⟩ => ⟨S64x64x8x64, .f32⟩
  | .hbm, ⟨7, _⟩ => ⟨S64x64x8x64, .f32⟩
  | .hbm, ⟨8, _⟩ => ⟨S_, .f32⟩
  | .hbm, ⟨9, _⟩ => ⟨S64x8x64x64, .f32⟩
  | .hbm, ⟨10, _⟩ => ⟨S_, .i32⟩
  | .hbm, ⟨11, _⟩ => ⟨S64x64x8x64, .f32⟩
  | .hbm, ⟨12, _⟩ => ⟨S64x64x8x64, .f32⟩
  | .hbm, ⟨13, _⟩ => ⟨S64x8x64x64, .f32⟩
  | .hbm, ⟨14, _⟩ => ⟨S_, .i32⟩
  | .hbm, ⟨15, _⟩ => ⟨S8x64x64, .f32⟩
  | .hbm, ⟨16, _⟩ => ⟨S64x8x64x64, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x64x8x64, .f32⟩
  | .hbm, ⟨27, _⟩ => ⟨S64x8x64, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x64x8x64, .f32⟩
  | .hbm, ⟨32, _⟩ => ⟨S64x8x64, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x64x64, .f32⟩
  | .hbm, ⟨37, _⟩ => ⟨S8x64x64, .f32⟩
  | .hbm, ⟨38, _⟩ => ⟨S8x64x64, .f32⟩
  | .hbm, ⟨39, _⟩ => ⟨S8x64x64, .f32⟩
  | .hbm, ⟨40, _⟩ => ⟨S64x8x64, .f32⟩
  | .hbm, ⟨41, _⟩ => ⟨S8x64x64, .f32⟩
  | .hbm, ⟨42, _⟩ => ⟨S8x64x64, .f32⟩
  | .hbm, ⟨43, _⟩ => ⟨S8x64x64, .f32⟩
  | .hbm, ⟨44, _⟩ => ⟨S8x64x64, .f32⟩
  | .hbm, ⟨45, _⟩ => ⟨S1x8x64x64, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S64x8x64x64, .f32⟩
  | .hbm, ⟨50, _⟩ => ⟨S_, .i32⟩
  | .hbm, ⟨51, _⟩ => ⟨S_, .i32⟩
  | .hbm, ⟨52, _⟩ => ⟨S64x64x8x64, .f32⟩
  | .hbm, ⟨53, _⟩ => ⟨S64x8x64x64, .f32⟩
  | .hbm, ⟨54, _⟩ => ⟨S64x8x64x64, .f32⟩
  | .hbm, ⟨55, _⟩ => ⟨S64x64x8x64, .f32⟩
  | .hbm, ⟨56, _⟩ => ⟨S64x64x8x64, .f32⟩
  | .hbm, ⟨57, _⟩ => ⟨S64x8x64x64, .f32⟩
  | .hbm, ⟨58, _⟩ => ⟨S64x8x64x64, .f32⟩
  | .hbm, ⟨59, _⟩ => ⟨S64x64x8x64, .f32⟩
  | .hbm, ⟨60, _⟩ => ⟨S64x8x64x64, .f32⟩
  | .hbm, ⟨61, _⟩ => ⟨S64x8x64x64, .f32⟩
  | .hbm, ⟨62, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_while0c_c_6 : Ref sig .tc := ⟨.hbm, 17, rfl⟩
abbrev main_while0c_v16 : Ref sig .tc := ⟨.hbm, 18, rfl⟩
abbrev main_while0b_c_6 : Ref sig .tc := ⟨.hbm, 19, rfl⟩
abbrev main_while0b_v16 : Ref sig .tc := ⟨.hbm, 20, rfl⟩
abbrev main_while0b_c_7 : Ref sig .tc := ⟨.hbm, 21, rfl⟩
abbrev main_while0b_v17 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_c_1 : Ref sig .tc := ⟨.hbm, 25, rfl⟩
abbrev main_while0b_call0_v0 : Ref sig .tc := ⟨.hbm, 26, rfl⟩
abbrev main_while0b_v18 : Ref sig .tc := ⟨.hbm, 27, rfl⟩
abbrev main_while0b_call1_c : Ref sig .tc := ⟨.hbm, 28, rfl⟩
abbrev main_while0b_call1_c_0 : Ref sig .tc := ⟨.hbm, 29, rfl⟩
abbrev main_while0b_call1_c_1 : Ref sig .tc := ⟨.hbm, 30, rfl⟩
abbrev main_while0b_call1_v0 : Ref sig .tc := ⟨.hbm, 31, rfl⟩
abbrev main_while0b_v19 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_call2_c_1 : Ref sig .tc := ⟨.hbm, 35, rfl⟩
abbrev main_while0b_call2_v0 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_call3_v0 : Ref sig .tc := ⟨.hbm, 45, rfl⟩
abbrev main_while0b_call3_c : Ref sig .tc := ⟨.hbm, 46, rfl⟩
abbrev main_while0b_call3_c_0 : Ref sig .tc := ⟨.hbm, 47, rfl⟩
abbrev main_while0b_call3_c_1 : Ref sig .tc := ⟨.hbm, 48, rfl⟩
abbrev main_while0b_v28 : Ref sig .tc := ⟨.hbm, 49, rfl⟩
abbrev main_while0b_c_8 : Ref sig .tc := ⟨.hbm, 50, rfl⟩
abbrev main_while0b_v29 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S64x8x64x64 : Shape := ⟨4, ![64, 8, 64, 64]⟩
abbrev S4096x512 : Shape := ⟨2, ![4096, 512]⟩
abbrev S8x8x64x64 : Shape := ⟨4, ![8, 8, 64, 64]⟩
abbrev S512x512 : Shape := ⟨2, ![512, 512]⟩
abbrev S8x64x64 : Shape := ⟨3, ![8, 64, 64]⟩
abbrev S1x8x64x64 : Shape := ⟨4, ![1, 8, 64, 64]⟩
abbrev S64x64 : Shape := ⟨2, ![64, 64]⟩
abbrev S1x64x64 : Shape := ⟨3, ![1, 64, 64]⟩
abbrev S64x512 : Shape := ⟨2, ![64, 512]⟩

abbrev nBuf : Space → Nat
  | .hbm => 6
  | .vmem => 13
  | .smem => 0
  | _ => 0

abbrev bufTy : (tb : Table) → Fin (tcTables nBuf tb) → BufTy
  | .hbm, ⟨0, _⟩ => ⟨S64x8x64x64, .f32⟩
  | .hbm, ⟨1, _⟩ => ⟨S64x8x64x64, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S64x8x64x64, .f32⟩
  | .local _ .vmem, ⟨0, _⟩ => ⟨S8x8x64x64, .f32⟩
  | .local _ .vmem, ⟨1, _⟩ => ⟨S8x8x64x64, .f32⟩
  | .local _ .vmem, ⟨2, _⟩ => ⟨S8x8x64x64, .f32⟩
  | .local _ .vmem, ⟨3, _⟩ => ⟨S8x8x64x64, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x8x64x64, .f32⟩
  | .local _ .vmem, ⟨11, _⟩ => ⟨S8x8x64x64, .f32⟩
  | .local _ .vmem, ⟨12, _⟩ => ⟨S8x64x64, .f32⟩
  | _, _ => ⟨S64x8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S64x8x64x64 : Shape := ⟨4, ![64, 8, 64, 64]⟩
abbrev S4096x512 : Shape := ⟨2, ![4096, 512]⟩
abbrev S_ : Shape := ⟨0, ![]⟩
abbrev S8x64x64 : Shape := ⟨3, ![8, 64, 64]⟩
abbrev S1x8x64x64 : Shape := ⟨4, ![1, 8, 64, 64]⟩
abbrev S64x64x8x64 : Shape := ⟨4, ![64, 64, 8, 64]⟩

abbrev nBuf : Space → Nat
  | .hbm => 41
  | .vmem => 0
  | .smem => 0
  | _ => 0

abbrev bufTy : (tb : Table) → Fin (tcTables nBuf tb) → BufTy
  | .hbm, ⟨0, _⟩ => ⟨S64x8x64x64, .f32⟩
  | .hbm, ⟨1, _⟩ => ⟨S64x8x64x64, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S8x64x64, .f32⟩
  | .hbm, ⟨6, _⟩ => ⟨S_, .f32⟩
  | .hbm, ⟨7, _⟩ => ⟨S64x8x64x64, .f32⟩
  | .hbm, ⟨8, _⟩ => ⟨S_, .i32⟩
  | .hbm, ⟨9, _⟩ => ⟨S64x8x64x64, .f32⟩
  | .hbm, ⟨10, _⟩ => ⟨S64x8x64x64, .f32⟩
  | .hbm, ⟨11, _⟩ => ⟨S_, .i32⟩
  | .hbm, ⟨12, _⟩ => ⟨S8x64x64, .f32⟩
  | .hbm, ⟨13, _⟩ => ⟨S64x8x64x64, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x8x64x64, .f32⟩
  | .hbm, ⟨20, _⟩ => ⟨S8x64x64, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x8x64x64, .f32⟩
  | .hbm, ⟨25, _⟩ => ⟨S8x64x64, .f32⟩
  | .hbm, ⟨26, _⟩ => ⟨S8x64x64, .f32⟩
  | .hbm, ⟨27, _⟩ => ⟨S8x64x64, .f32⟩
  | .hbm, ⟨28, _⟩ => ⟨S1x8x64x64, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x8x64x64, .f32⟩
  | .hbm, ⟨33, _⟩ => ⟨S_, .i32⟩
  | .hbm, ⟨34, _⟩ => ⟨S_, .i32⟩
  | .hbm, ⟨35, _⟩ => ⟨S64x64x8x64, .f32⟩
  | .hbm, ⟨36, _⟩ => ⟨S64x8x64x64, .f32⟩
  | .hbm, ⟨37, _⟩ => ⟨S64x64x8x64, .f32⟩
  | .hbm, ⟨38, _⟩ => ⟨S64x64x8x64, .f32⟩
  | .hbm, ⟨39, _⟩ => ⟨S64x64x8x64, .f32⟩
  | .hbm, ⟨40, _⟩ => ⟨S4096x512, .f32⟩
  | _, _ => ⟨S64x8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_c : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_while0c_c_5 : Ref sig .tc := ⟨.hbm, 14, rfl⟩
abbrev main_while0c_v9 : Ref sig .tc := ⟨.hbm, 15, rfl⟩
abbrev main_while0b_call0_c : Ref sig .tc := ⟨.hbm, 16, rfl⟩
abbrev main_while0b_call0_c_0 : Ref sig .tc := ⟨.hbm, 17, rfl⟩
abbrev main_while0b_call0_c_1 : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_c_0 : Ref sig .tc := ⟨.hbm, 22, rfl⟩
abbrev main_while0b_call1_c_1 : Ref sig .tc := ⟨.hbm, 23, rfl⟩
abbrev main_while0b_call1_v0 : Ref sig .tc := ⟨.hbm, 24, rfl⟩
abbrev main_while0b_v10 : Ref sig .tc := ⟨.hbm, 25, rfl⟩
abbrev main_while0b_v11 : Ref sig .tc := ⟨.hbm, 26, rfl⟩
abbrev main_while0b_v12 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_call2_c_0 : Ref sig .tc := ⟨.hbm, 30, rfl⟩
abbrev main_while0b_call2_c_1 : Ref sig .tc := ⟨.hbm, 31, rfl⟩
abbrev main_while0b_v13 : Ref sig .tc := ⟨.hbm, 32, rfl⟩
abbrev main_while0b_c_5 : Ref sig .tc := ⟨.hbm, 33, rfl⟩
abbrev main_while0b_v14 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4x4096x704 : Shape := ⟨3, ![4, 4096, 704]⟩
abbrev S4096x1024 : Shape := ⟨2, ![4096, 1024]⟩
abbrev S1x4096x1024 : Shape := ⟨3, ![1, 4096, 1024]⟩
abbrev S4x704x1024 : Shape := ⟨3, ![4, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4096x4x704, .bf16⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4x2x4096x704 : Shape := ⟨4, ![4, 2, 4096, 704]⟩
abbrev S4096x1024 : Shape := ⟨2, ![4096, 1024]⟩
abbrev S8x4096x704 : Shape := ⟨3, ![8, 4096, 704]⟩
abbrev S1x4096x1024 : Shape := ⟨3, ![1, 4096, 1024]⟩
abbrev S8x704x1024 : Shape := ⟨3, ![8, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2x4096x704, .bf16⟩
  | .hbm, ⟨1, _⟩ => ⟨S4096x1024, .bf16⟩
  | .hbm, ⟨2, _⟩ => ⟨S8x4096x704, .bf16⟩
  | .hbm, ⟨3, _⟩ => ⟨S1x4096x1024, .bf16⟩
  | .hbm, ⟨4, _⟩ => ⟨S8x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x2x4096x704 : Shape := ⟨4, ![4, 2, 4096, 704]⟩
abbrev S4096x1024 : Shape := ⟨2, ![4096, 1024]⟩
abbrev S4096x2x4x704 : Shape := ⟨4, ![4096, 2, 4, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x2x4x704 : Shape := ⟨4, ![1024, 2, 4, 704]⟩
abbrev S4x2x704x1024 : Shape := ⟨4, ![4, 2, 704, 1024]⟩
abbrev S8x704x1024 : Shape := ⟨3, ![8, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x2x4096x704, .bf16⟩
  | .hbm, ⟨1, _⟩ => ⟨S4096x1024, .bf16⟩
  | .hbm, ⟨2, _⟩ => ⟨S4096x2x4x704, .bf16⟩
  | .hbm, ⟨3, _⟩ => ⟨S4096x5632, .bf16⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x2x4x704, .f32⟩
  | .hbm, ⟨12, _⟩ => ⟨S4x2x704x1024, .f32⟩
  | .hbm, ⟨13, _⟩ => ⟨S8x704x1024, .f32⟩
  | .hbm, ⟨14, _⟩ => ⟨S8x704x1024, .bf16⟩
  | _, _ => ⟨S4x2x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S2x4x704x1024 : Shape := ⟨4, ![2, 4, 704, 1024]⟩
abbrev S4x2x704x1024 : Shape := ⟨4, ![4, 2, 704, 1024]⟩
abbrev S4x2x4096x704 : Shape := ⟨4, ![4, 2, 4096, 704]⟩
abbrev S4x4096x704 : Shape := ⟨3, ![4, 4096, 704]⟩
abbrev S1024x1024 : Shape := ⟨2, ![1024, 1024]⟩
abbrev S1x2x704x1024 : Shape := ⟨4, ![1, 2, 704, 1024]⟩
abbrev S1x2x1024x704 : Shape := ⟨4, ![1, 2, 1024, 704]⟩
abbrev S1x1024x704 : Shape := ⟨3, ![1, 1024, 704]⟩
abbrev S256x1024 : Shape := ⟨2, ![256, 1024]⟩
abbrev S256 : Shape := ⟨1, ![256]⟩
abbrev S256x1 : Shape := ⟨2, ![256, 1]⟩
abbrev S1x1x704x1024 : Shape := ⟨4, ![1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S1x256x704 : Shape := ⟨3, ![1, 256, 704]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S5632x1024, .bf16⟩
  | .hbm, ⟨4, _⟩ => ⟨S2x4x704x1024, .bf16⟩
  | .hbm, ⟨5, _⟩ => ⟨S4x2x704x1024, .bf16⟩
  | .hbm, ⟨6, _⟩ => ⟨S4096x1024, .bf16⟩
  | .hbm, ⟨7, _⟩ => ⟨S4x2x4096x704, .bf16⟩
  | .hbm, ⟨8, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x2x704x1024, .bf16⟩
  | .local _ .vmem, ⟨4, _⟩ => ⟨S1x2x704x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x2x1024x704, .bf16⟩
  | .local _ .vmem, ⟨8, _⟩ => ⟨S1x2x1024x704, .bf16⟩
  | .local _ .vmem, ⟨9, _⟩ => ⟨S1x1024x704, .bf16⟩
  | .local _ .vmem, ⟨10, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S4x2x4096x704 : Shape := ⟨4, ![4, 2, 4096, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x5632, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x4x704, .f32⟩
  | .hbm, ⟨33, _⟩ => ⟨S4x4096x704, .f32⟩
  | .hbm, ⟨34, _⟩ => ⟨S4096x1024, .bf16⟩
  | .hbm, ⟨35, _⟩ => ⟨S4096x2x4x704, .f32⟩
  | .hbm, ⟨36, _⟩ => ⟨S4x2x4096x704, .f32⟩
  | .hbm, ⟨37, _⟩ => ⟨S4x2x4096x704, .bf16⟩
  | .hbm, ⟨38, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S1x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S1x4096x2816 : Shape := ⟨3, ![1, 4096, 2816]⟩
abbrev S1x4096x1024 : Shape := ⟨3, ![1, 4096, 1024]⟩
abbrev S1x2816x1024 : Shape := ⟨3, ![1, 2816, 1024]⟩
abbrev S1x1024x2816 : Shape := ⟨3, ![1, 1024, 2816]⟩
abbrev S1x1024x512 : Shape := ⟨3, ![1, 1024, 512]⟩
abbrev S1x2816x512 : Shape := ⟨3, ![1, 2816, 512]⟩
abbrev S2816x512 : Shape := ⟨2, ![2816, 512]⟩
abbrev S1024x2816 : Shape := ⟨2, ![1024, 2816]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x4096x2816, .bf16⟩
  | .hbm, ⟨3, _⟩ => ⟨S1x4096x1024, .bf16⟩
  | .hbm, ⟨4, _⟩ => ⟨S1x2816x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x2816x512, .bf16⟩
  | .local _ .vmem, ⟨5, _⟩ => ⟨S1x2816x512, .bf16⟩
  | .local _ .vmem, ⟨6, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S2x4x704x1024 : Shape := ⟨4, ![2, 4, 704, 1024]⟩
abbrev S4x2x704x1024 : Shape := ⟨4, ![4, 2, 704, 1024]⟩
abbrev S1x2x1024x704 : Shape := ⟨4, ![1, 2, 1024, 704]⟩
abbrev S1x2x704x1024 : Shape := ⟨4, ![1, 2, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x2x4096x704, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .bf16⟩
  | .hbm, ⟨6, _⟩ => ⟨S2x4x704x1024, .bf16⟩
  | .hbm, ⟨7, _⟩ => ⟨S4x2x704x1024, .bf16⟩
  | .hbm, ⟨8, _⟩ => ⟨S4096x1024, .f32⟩
  | .hbm, ⟨9, _⟩ => ⟨S1x1024, .f32⟩
  | .local _ .vmem, ⟨0, _⟩ => ⟨S1x2x1024x704, .bf16⟩
  | .local _ .vmem, ⟨1, _⟩ => ⟨S1x2x1024x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x2x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_18 : BitVec 32 := 0#32
  let v19 : BitVec 1 := Scalar.cmpi .ne v18 c0_i32_18
  v19

def k0_cond4 (i : grid0.Coords) : BitVec 1 :=
  let arg0 : BitVec 32 := BitVec.ofNat 32 (i 0).val
  let c0_i32_35 : BitVec 32 := 0#32
  let v51 : BitVec 1 := Scalar.cmpi .eq arg0 c0_i32_35
  let v52 : BitVec 32 := Scalar.extui v51
  let c0_i32_36 : BitVec 32 := 0#32
  let v53 : BitVec 1 := Scalar.cmpi .ne v52 c0_i32_36
  v53

def k0_cond5 (i : grid0.Coords) : BitVec 1 :=
  let arg0 : BitVec 32 := BitVec.ofNat 32 (i 0).val
  let c0_i32_37 : BitVec 32 := 0#32
  let v54 : BitVec 1 := Scalar.cmpi .ne arg0 c0_i32_37
  let v55 : BitVec 32 := Scalar.extui v54
  let c0_i32_38 : BitVec 32 := 0#32
  let v56 : BitVec 1 := Scalar.cmpi .ne v55 c0_i32_38
  v56

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S4096x2x4x704 : Shape := ⟨4, ![4096, 2, 4, 704]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2x4096x704, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .f32⟩
  | .hbm, ⟨6, _⟩ => ⟨S4096x2x4x704, .bf16⟩
  | .hbm, ⟨7, _⟩ => ⟨S4096x5632, .bf16⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4x2x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel9.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S1x1x4096x2816 : Shape := ⟨4, ![1, 1, 4096, 2816]⟩
abbrev S2816x1024 : Shape := ⟨2, ![2816, 1024]⟩
abbrev S1x1x2816x1024 : Shape := ⟨4, ![1, 1, 2816, 1024]⟩
abbrev S1x1x1024x2816 : Shape := ⟨4, ![1, 1, 1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1x4096x2816, .bf16⟩
  | .hbm, ⟨6, _⟩ => ⟨S2816x1024, .bf16⟩
  | .hbm, ⟨7, _⟩ => ⟨S1x1x2816x1024, .bf16⟩
  | .hbm, ⟨8, _⟩ => ⟨S4096x1024, .f32⟩
  | .hbm, ⟨9, _⟩ => ⟨S1x1024, .f32⟩
  | .local _ .vmem, ⟨0, _⟩ => ⟨S1x1x1024x2816, .bf16⟩
  | .local _ .vmem, ⟨1, _⟩ => ⟨S1x1x1024x2816, .bf16⟩
  | .local _ .vmem, ⟨2, _⟩ => ⟨S1x1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_10 : BitVec 32 := 0#32
  let v11 : BitVec 1 := Scalar.cmpi .eq arg1 c0_i32_10
  let v12 : BitVec 32 := Scalar.extui v11
  let c0_i32_11 : BitVec 32 := 0#32
  let v13 : BitVec 1 := Scalar.cmpi .ne v12 c0_i32_11
  v13

def k0_cond4 (i : grid0.Coords) : BitVec 1 :=
  let arg0 : BitVec 32 := BitVec.ofNat 32 (i 0).val
  let c0_i32_28 : BitVec 32 := 0#32
  let v45 : BitVec 1 := Scalar.cmpi .eq arg0 c0_i32_28
  let v46 : BitVec 32 := Scalar.extui v45
  let c0_i32_29 : BitVec 32 := 0#32
  let v47 : BitVec 1 := Scalar.cmpi .ne v46 c0_i32_29
  v47

def k0_cond5 (i : grid0.Coords) : BitVec 1 :=
  let arg0 : BitVec 32 := BitVec.ofNat 32 (i 0).val
  let c0_i32_30 : BitVec 32 := 0#32
  let v48 : BitVec 1 := Scalar.cmpi .ne arg0 c0_i32_30
  let v49 : BitVec 32 := Scalar.extui v48
  let c0_i32_31 : BitVec 32 := 0#32
  let v50 : BitVec 1 := Scalar.cmpi .ne v49 c0_i32_31
  v50

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x2816, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1x4096x1024 : Shape := ⟨3, ![1, 4096, 1024]⟩
abbrev S1024 : Shape := ⟨1, ![1024]⟩
abbrev S1024x1 : Shape := ⟨2, ![1024, 1]⟩
abbrev S256x1024 : Shape := ⟨2, ![256, 1024]⟩
abbrev S1x256x1024 : Shape := ⟨3, ![1, 256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S1x1024x1024, .bf16⟩
  | .hbm, ⟨5, _⟩ => ⟨S4096x1024, .bf16⟩
  | .hbm, ⟨6, _⟩ => ⟨S1x1024, .f32⟩
  | .hbm, ⟨7, _⟩ => ⟨S1x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_51 : BitVec 32 := 0#32
  let v67 : BitVec 1 := Scalar.cmpi .eq arg0 c0_i32_51
  let v68 : BitVec 32 := Scalar.extui v67
  let c0_i32_52 : BitVec 32 := 0#32
  let v69 : BitVec 1 := Scalar.cmpi .ne v68 c0_i32_52
  v69

def k0_cond3 (i : grid0.Coords) : BitVec 1 :=
  let arg0 : BitVec 32 := BitVec.ofNat 32 (i 0).val
  let c0_i32_53 : BitVec 32 := 0#32
  let v70 : BitVec 1 := Scalar.cmpi .ne arg0 c0_i32_53
  let v71 : BitVec 32 := Scalar.extui v70
  let c0_i32_54 : BitVec 32 := 0#32
  let v72 : BitVec 1 := Scalar.cmpi .ne v71 c0_i32_54
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x4096x1024 : Shape := ⟨3, ![1, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S4x4096x704 : Shape := ⟨3, ![4, 4096, 704]⟩
abbrev S2816x1024 : Shape := ⟨2, ![2816, 1024]⟩
abbrev S4096x1024 : Shape := ⟨2, ![4096, 1024]⟩
abbrev S1x1024 : Shape := ⟨2, ![1, 1024]⟩
abbrev S4x704x1024 : Shape := ⟨3, ![4, 704, 1024]⟩
abbrev S1x1 : Shape := ⟨2, ![1, 1]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1024 : Shape := ⟨1, ![1024]⟩
abbrev S1024x1 : Shape := ⟨2, ![1024, 1]⟩
abbrev S1 : Shape := ⟨1, ![1]⟩

abbrev nBuf : Space → Nat
  | .hbm => 9
  | .vmem => 13
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x704x1024, .bf16⟩
  | .hbm, ⟨6, _⟩ => ⟨S4096x1024, .f32⟩
  | .hbm, ⟨7, _⟩ => ⟨S4096x1024, .f32⟩
  | .hbm, ⟨8, _⟩ => ⟨S1x1, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_40 : BitVec 32 := 0#32
  let v56 : BitVec 1 := Scalar.cmpi .ne v55 c0_i32_40
  v56

def k0_cond2 (i : grid0.Coords) : BitVec 1 :=
  let arg0 : BitVec 32 := BitVec.ofNat 32 (i 0).val
  let c0_i32_41 : BitVec 32 := 0#32
  let v57 : BitVec 1 := Scalar.cmpi .ne arg0 c0_i32_41
  let v58 : BitVec 32 := Scalar.extui v57
  let c0_i32_42 : BitVec 32 := 0#32
  let v59 : BitVec 1 := Scalar.cmpi .ne v58 c0_i32_42
  v59

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4x4096x704 : Shape := ⟨3, ![4, 4096, 704]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4x704, .bf16⟩
  | .hbm, ⟨6, _⟩ => ⟨S4096x2816, .bf16⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S1x1, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x1792 : Shape := ⟨2, ![4096, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩
abbrev S1792x1024 : Shape := ⟨2, ![1792, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .bf16⟩
  | .hbm, ⟨3, _⟩ => ⟨S2816x1024, .bf16⟩
  | .hbm, ⟨4, _⟩ => ⟨S4096x1024, .bf16⟩
  | .hbm, ⟨5, _⟩ => ⟨S4096x1792, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .f32⟩
  | .local _ .vmem, ⟨7, _⟩ => ⟨S512x1792, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x1792 : Shape := ⟨2, ![4096, 1792]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x2816, .f32⟩
  | .hbm, ⟨19, _⟩ => ⟨S4096x2816, .f32⟩
  | .hbm, ⟨20, _⟩ => ⟨S4096x1024, .bf16⟩
  | .hbm, ⟨21, _⟩ => ⟨S4096x1792, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x4096x1024, .bf16⟩
  | .hbm, ⟨5, _⟩ => ⟨S1x1024x1024, .bf16⟩
  | .hbm, ⟨6, _⟩ => ⟨S4096x1024, .f32⟩
  | .hbm, ⟨7, _⟩ => ⟨S4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S4x4096x704 : Shape := ⟨3, ![4, 4096, 704]⟩
abbrev S4096x1024 : Shape := ⟨2, ![4096, 1024]⟩
abbrev S1x4096x1024 : Shape := ⟨3, ![1, 4096, 1024]⟩
abbrev S4x704x1024 : Shape := ⟨3, ![4, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4096x4x704, .bf16⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S5632x1024 : Shape := ⟨2, ![5632, 1024]⟩
abbrev S2x4x704x1024 : Shape := ⟨4, ![2, 4, 704, 1024]⟩
abbrev S4x2x704x1024 : Shape := ⟨4, ![4, 2, 704, 1024]⟩
abbrev S1x2x1024x704 : Shape := ⟨4, ![1, 2, 1024, 704]⟩
abbrev S1x2x704x1024 : Shape := ⟨4, ![1, 2, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4x2x4096x704, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .bf16⟩
  | .hbm, ⟨6, _⟩ => ⟨S2x4x704x1024, .bf16⟩
  | .hbm, ⟨7, _⟩ => ⟨S4x2x704x1024, .bf16⟩
  | .hbm, ⟨8, _⟩ => ⟨S4096x1024, .f32⟩
  | .hbm, ⟨9, _⟩ => ⟨S1x1024, .f32⟩
  | .local _ .vmem, ⟨0, _⟩ => ⟨S1x2x1024x704, .bf16⟩
  | .local _ .vmem, ⟨1, _⟩ => ⟨S1x2x1024x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x2x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_18 : BitVec 32 := 0#32
  let v19 : BitVec 1 := Scalar.cmpi .ne v18 c0_i32_18
  v19

def k0_cond4 (i : grid0.Coords) : BitVec 1 :=
  let arg0 : BitVec 32 := BitVec.ofNat 32 (i 0).val
  let c0_i32_35 : BitVec 32 := 0#32
  let v51 : BitVec 1 := Scalar.cmpi .eq arg0 c0_i32_35
  let v52 : BitVec 32 := Scalar.extui v51
  let c0_i32_36 : BitVec 32 := 0#32
  let v53 : BitVec 1 := Scalar.cmpi .ne v52 c0_i32_36
  v53

def k0_cond5 (i : grid0.Coords) : BitVec 1 :=
  let arg0 : BitVec 32 := BitVec.ofNat 32 (i 0).val
  let c0_i32_37 : BitVec 32 := 0#32
  let v54 : BitVec 1 := Scalar.cmpi .ne arg0 c0_i32_37
  let v55 : BitVec 32 := Scalar.extui v54
  let c0_i32_38 : BitVec 32 := 0#32
  let v56 : BitVec 1 := Scalar.cmpi .ne v55 c0_i32_38
  v56

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S4x2x4096x704 : Shape := ⟨4, ![4, 2, 4096, 704]⟩
abbrev S1024x5632 : Shape := ⟨2, ![1024, 5632]⟩
abbrev S4096x1024 : Shape := ⟨2, ![4096, 1024]⟩
abbrev S1x1024 : Shape := ⟨2, ![1, 1024]⟩
abbrev S4096x2x4x704 : Shape := ⟨4, ![4096, 2, 4, 704]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4x2x4096x704, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5632, .f32⟩
  | .hbm, ⟨6, _⟩ => ⟨S4096x2x4x704, .bf16⟩
  | .hbm, ⟨7, _⟩ => ⟨S4096x5632, .bf16⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4x2x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.R2BwdRef.lean ====
/- The reference of the state recurrence's gradient: its loop over the 64 chunks, last chunk first, entry by entry. -/
module

public import proofs.«01_k».proof.Proof.Gen.ReferenceIdeal.Run
public import proofs.«01_k».proof.Defs
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.R2Bwd

open Cert.ReferenceIdeal Cert.ReferenceIdeal.Gen Cert.ReferenceIdeal.Value

/-- The state's gradient after `n` chunks taken from the last one down: what the later chunks hand back through their transition
    `a`, plus what chunk `63 - n` reads of the state through its queries. -/
def G (dy q : Fin 4096 → Fin 512 → EReal) (a : Fin 64 → Fin 8 → Fin 64 → Fin 64 → EReal) : ℕ → Fin 8 → Fin 64 → Fin 64 → EReal
  | 0 => fun _ _ _ => 0
  | n + 1 => fun h i j =>
      (∑ t : Fin 64, dy ⟨(63 - n) * 64 + t, by omega⟩ ⟨h * 64 + i, by omega⟩ * q ⟨(63 - n) * 64 + t, by omega⟩ ⟨h * 64 + j, by omega⟩)
        + ∑ k : Fin 64, G dy q a n h i k * a ⟨63 - n, by omega⟩ h j k

variable (m : (ℓ : Loc nD τ sig) → Buf (Elt Ideal) ℓ) (c : Dev nD)

/-- The state's gradient over the argument arrays. -/
abbrev Gm (n : ℕ) : Fin 8 → Fin 64 → Fin 64 → EReal :=
  G (fun r s => m ((c.tc : Thread nD τ).loc main_arg0) (ix2 r s)) (fun r s => m ((c.tc : Thread nD τ).loc main_arg1) (ix2 r s))
    (fun x h i j => m ((c.tc : Thread nD τ).loc main_arg3) (ix4 x h i j)) n

/-- The loop's buffers before trip `n`. -/
structure Inv (V : Valuation τ sig (Elt Ideal)) (n : ℕ) : Prop where
  dy : V (Proc.devRef .tc main_v4_0) = shapeCast S64x64x8x64 (m ((c.tc : Thread nD τ).loc main_arg0)) shapeCasts_S4096x512_S64x64x8x64
  q : V (Proc.devRef .tc main_v4_1) = shapeCast S64x64x8x64 (m ((c.tc : Thread nD τ).loc main_arg1)) shapeCasts_S4096x512_S64x64x8x64
  a : V (Proc.devRef .tc main_v4_2) = m ((c.tc : Thread nD τ).loc main_arg3)
  num : V (Proc.devRef .tc main_v4_3) = constantI S_ 32 (BitVec.ofNat 32 n)
  ds : ∀ h i j, V (Proc.devRef .tc main_v4_4) (ix3 h i j) = Gm m c n h i j
  dg : ∀ (x : Fin 64) h i j, 64 ≤ x.val + n → V (Proc.devRef .tc main_v4_5) (ix4 x h i j) = Gm m c (63 - x) h i j

set_option maxRecDepth 65536 in
/-- Before the first trip. -/
theorem inv_zero : Inv m c (entryContents preI m c) 0 := by
  constructor
  · simp only [entryContents, afterL_cons, afterL_nil]; after_reads_simp; rfl
  · simp only [entryContents, afterL_cons, afterL_nil]; after_reads_simp; rfl
  · simp only [entryContents, afterL_cons, afterL_nil]; after_reads_simp; try rfl
  · simp only [entryContents, afterL_cons, afterL_nil]; after_reads_simp; try rfl
  · intro h i j
    simp only [entryContents, afterL_cons, afterL_nil]; after_reads_simp
    dsimp only [id]
    pointwise
    rfl
  · intro x h i j hx; omega

/-- The number of the chunk that trip `n` takes. -/
theorem chunk_eq (n : ℕ) (hn : n < 64) :
    subi (subi (constantI S_ 32 64#32) (constantI S_ 32 (BitVec.ofNat 32 n))) (constantI S_ 32 1#32) = constantI S_ 32 (BitVec.ofNat 32 (63 - n)) := by
  funext i
  have : ∀ n : Fin 64, (64#32 - BitVec.ofNat 32 n) - 1#32 = BitVec.ofNat 32 (63 - n) := by decide
  exact this ⟨n, hn⟩

/-- The start of chunk `e` of an array of 64 chunks. -/
abbrev at0 (e : ℕ) : Fin 4 → Int := fun k => (((![constantI S_ 32 (BitVec.ofNat 32 e), constantI S_ 32 0#32, constantI S_ 32 0#32, constantI S_ 32 0#32] : Fin 4 → (⟨S_, .i32⟩ : BufTy).Contents (Elt Ideal))) k (Shape.Idx.first h_S_)).toInt

/-- It is `e` along the chunks and zero along the rest. -/
theorem at0_eq (e : ℕ) (he : e < 64) (k : Fin 4) : at0 e k = ((![e, 0, 0, 0] : Fin 4 → ℕ) k : Int) := by
  have h : ∀ e : Fin 64, (BitVec.ofNat 32 e).toInt = (e.val : Int) := by decide
  fin_cases k
  · exact h ⟨e, he⟩
  · rfl
  · rfl
  · rfl

/-- A chunk of an array kept by chunk, time, head and column. -/
theorem rows_at (x : (⟨S64x64x8x64, .f32⟩ : BufTy).Contents (Elt Ideal)) (e : ℕ) (he : e < 64) (t : Fin 64) (h : Fin 8) (i : Fin 64) :
    shapeCast S64x8x64 (Host.dynamicSlice S1x64x8x64 x (at0 e) sliceFits_S64x64x8x64_S1x64x8x64) shapeCasts_S1x64x8x64_S64x8x64 (ix3 t h i)
      = x (ix4 ⟨e, he⟩ t h i) := by
  have hk : Shape.Slices S64x64x8x64 (![e, 0, 0, 0] : Fin 4 → ℕ) S1x64x8x64 := ⟨rfl, fun a => by fin_cases a <;> simp [S64x64x8x64, S1x64x8x64, Shape.size] <;> omega⟩
  rw [WordCmp.dynamicSlice_eq_extract _ _ _ _ _ hk (at0_eq e he)]
  pointwise

/-- A chunk of an array of states. -/
theorem state_at (x : (⟨S64x8x64x64, .f32⟩ : BufTy).Contents (Elt Ideal)) (e : ℕ) (he : e < 64) (h : Fin 8) (i j : Fin 64) :
    shapeCast S8x64x64 (Host.dynamicSlice S1x8x64x64 x (at0 e) sliceFits_S64x8x64x64_S1x8x64x64) shapeCasts_S1x8x64x64_S8x64x64 (ix3 h i j)
      = x (ix4 ⟨e, he⟩ h i j) := by
  have hk : Shape.Slices S64x8x64x64 (![e, 0, 0, 0] : Fin 4 → ℕ) S1x8x64x64 := ⟨rfl, fun a => by fin_cases a <;> simp [S64x8x64x64, S1x8x64x64, Shape.size] <;> omega⟩
  rw [WordCmp.dynamicSlice_eq_extract _ _ _ _ _ hk (at0_eq e he)]
  pointwise

/-- A state written at its chunk of an array of states. -/
theorem put_at (x : (⟨S64x8x64x64, .f32⟩ : BufTy).Contents (Elt Ideal)) (u : (⟨S8x64x64, .f32⟩ : BufTy).Contents (Elt Ideal)) (e : ℕ) (he : e < 64) (y : Fin 64) (h : Fin 8) (i j : Fin 64) :
    Host.dynamicUpdateSlice x (broadcastInDim S1x8x64x64 ![1, 2, 3] bcast_S8x64x64_S1x8x64x64_1_2_3 u) (at0 e) updateFits_S64x8x64x64_S1x8x64x64 (ix4 y h i j)
      = if y.val = e then u (ix3 h i j) else x (ix4 y h i j) := by
  have hk : Shape.Slices S64x8x64x64 (![e, 0, 0, 0] : Fin 4 → ℕ) S1x8x64x64 := ⟨rfl, fun a => by fin_cases a <;> simp [S64x8x64x64, S1x8x64x64, Shape.size] <;> omega⟩
  rw [WordCmp.dynamicUpdateSlice_eq_update _ _ _ _ _ hk (at0_eq e he)]
  pointwise
  exact if_congr (by omega) rfl rfl

/-- The rows and columns of a matrix kept by chunk, time, head and column. -/
theorem heads_at (x : (⟨S4096x512, .f32⟩ : BufTy).Contents (Elt Ideal)) (e t : Fin 64) (h : Fin 8) (i : Fin 64) :
    shapeCast S64x64x8x64 x shapeCasts_S4096x512_S64x64x8x64 (ix4 e t h i) = x (ix2 ⟨e * 64 + t, by omega⟩ ⟨h * 64 + i, by omega⟩) := by
  pointwise

/-- The products of one trip. -/
theorem step_at (u w : (⟨S64x8x64, .f32⟩ : BufTy).Contents (Elt Ideal)) (s v : (⟨S8x64x64, .f32⟩ : BufTy).Contents (Elt Ideal)) (h : Fin 8) (i j : Fin 64) :
    addf (F := Ideal) (Host.dotGeneral (φ₁ := .f32) (φ₂ := .f32) dot_S8x64x64_S64x8x64_S8x64x64_2_0_1_2_0_1 none (transpose S8x64x64 [1, 2, 0] u transposes_S64x8x64_S8x64x64_1_2_0) w)
        (Host.dotGeneral (φ₁ := .f32) (φ₂ := .f32) dot_S8x64x64_S8x64x64_S8x64x64_2_2_1_1_0_0 none s v) (ix3 h i j)
      = ((∑ t : Fin 64, u (ix3 t h i) * w (ix3 t h j)) + ∑ k : Fin 64, s (ix3 h i k) * v (ix3 h j k) : EReal) := by
  pointwise

/-- One trip. -/
theorem inv_step (V : Valuation τ sig (Elt Ideal)) (n : ℕ) (hn : n < 64) (h : Inv m c V n) : Inv m c (STEP V) (n + 1) where
  dy := (STEP_main_v4_0 V).trans h.dy
  q := (STEP_main_v4_1 V).trans h.q
  a := (STEP_main_v4_2 V).trans h.a
  num := (STEP_main_v4_3 V).trans (by
    unfold step_main_v4_3
    rw [h.num]
    funext i
    exact (BitVec.ofNat_add n 1).symm)
  ds := fun x i j => by
    rw [STEP_main_v4_4]
    unfold step_main_v4_4 res_main_while0b_v19 res_main_while0b_v20 res_main_while0b_v17
    rw [h.num, chunk_eq n hn]
    dsimp only [id]
    refine (step_at _ _ _ _ x i j).trans ?_
    refine congrArg₂ (· + ·) (Finset.sum_congr rfl fun t _ => congrArg₂ (· * ·) ?_ ?_) (Finset.sum_congr rfl fun k _ => congrArg₂ (· * ·) (h.ds x i k) ?_)
    · refine (rows_at _ _ (by omega) t x i).trans ?_
      rw [h.dy]
      exact heads_at _ _ t x i
    · refine (rows_at _ _ (by omega) t x j).trans ?_
      rw [h.q]
      exact heads_at _ _ t x j
    · refine (state_at _ _ (by omega) x j k).trans ?_
      rw [h.a]
  dg := fun x k i j hx => by
    rw [STEP_main_v4_5]
    unfold step_main_v4_5 res_main_while0b_v17
    rw [h.num, chunk_eq n hn]
    refine (put_at _ _ _ (by omega) x k i j).trans ?_
    split_ifs with hy
    · rw [h.ds, hy, show 63 - (63 - n) = n by omega]
    · exact h.dg x k i j (by omega)

/-- Before trip `n`. -/
theorem inv (n : ℕ) (hn : n ≤ 64) : Inv m c (STEP^[n] (entryContents preI m c)) n := by
  induction n with
  | zero => exact inv_zero m c
  | succ n ih => rw [Function.iterate_succ_apply']; exact inv_step m c _ n (by omega) (ih (by omega))

/-- The argument arrays by their coordinates. -/
abbrev dym (r : Fin 4096) (s : Fin 512) : EReal := m ((c.tc : Thread nD τ).loc main_arg0) (ix2 r s)
/-- The chunks' first states. -/
abbrev sm (e : Fin 64) (h : Fin 8) (i j : Fin 64) : EReal := m ((c.tc : Thread nD τ).loc main_arg2) (ix4 e h i j)

/-- The reference's queries' gradient, entry by entry. -/
theorem dq_at (e t : Fin 64) (h : Fin 8) (j : Fin 64) :
    (out_main_v15 (STEP^[64] (entryContents preI m c)) (ix2 ⟨e * 64 + t, by omega⟩ ⟨h * 64 + j, by omega⟩) : EReal)
      = ∑ i : Fin 64, dym m c ⟨e * 64 + t, by omega⟩ ⟨h * 64 + i, by omega⟩ * sm m c e h i j := by
  unfold out_main_v15
  rw [iter_main_arg0, iter_main_arg2]
  dsimp only [id]
  pointwise

/-- The reference's transitions' gradient, entry by entry. -/
theorem da_at (e : Fin 64) (h : Fin 8) (i j : Fin 64) :
    (out_main_v14 (STEP^[64] (entryContents preI m c)) (ix4 e h i j) : EReal)
      = ∑ k : Fin 64, Gm m c (63 - e) h k j * sm m c e h k i := by
  have hg := fun k => (inv m c 64 (by omega)).dg e h k j (by omega)
  unfold out_main_v14
  rw [iter_main_arg2]
  dsimp only [id]
  simp only [← hg]
  pointwise

/-- The reference's increments' gradient, entry by entry. -/
theorem dg_at (e : Fin 64) (h : Fin 8) (i j : Fin 64) :
    (STEP^[64] (entryContents preI m c)) (Proc.devRef .tc main_v4_5) (ix4 e h i j) = Gm m c (63 - e) h i j :=
  (inv m c 64 (by omega)).dg e h i j (by omega)

/-- The queries' gradient as a function of the argument arrays. -/
def dqV (x0 : Vec Ideal S4096x512 .f32) (x2 : Vec Ideal S64x8x64x64 .f32) : Vec Ideal S4096x512 .f32 := fun y =>
  ∑ i : Fin 64, x0 (ix2 (y 0) ⟨(y 1 : ℕ) / 64 * 64 + i, by have := (y 1).isLt; dsimp at this; omega⟩)
    * x2 (ix4 ⟨(y 0 : ℕ) / 64, by have := (y 0).isLt; dsimp at this; omega⟩ ⟨(y 1 : ℕ) / 64, by have := (y 1).isLt; dsimp at this; omega⟩ i
        ⟨(y 1 : ℕ) % 64, by omega⟩)

/-- The increments' gradient as a function of the argument arrays. -/
def dgV (x0 x1 : Vec Ideal S4096x512 .f32) (x3 : Vec Ideal S64x8x64x64 .f32) : Vec Ideal S64x8x64x64 .f32 := fun y =>
  G (fun r s => x0 (ix2 r s)) (fun r s => x1 (ix2 r s)) (fun e h i j => x3 (ix4 e h i j)) (63 - (y 0 : ℕ)) (y 1) (y 2) (y 3)

/-- The transitions' gradient as a function of the argument arrays. -/
def daV (x0 x1 : Vec Ideal S4096x512 .f32) (x2 x3 : Vec Ideal S64x8x64x64 .f32) : Vec Ideal S64x8x64x64 .f32 := fun y =>
  ∑ k : Fin 64, dgV x0 x1 x3 (ix4 (y 0) (y 1) k (y 3)) * x2 (ix4 (y 0) (y 1) k (y 2))

/-- The reference's gradient of the queries is `dqV` of the arguments. -/
theorem dq_eq : out_main_v15 (STEP^[64] (entryContents preI m c))
    = dqV (m ((c.tc : Thread nD τ).loc main_arg0)) (m ((c.tc : Thread nD τ).loc main_arg2)) := by
  funext y
  have h0 : (y 0 : ℕ) < 4096 := (y 0).isLt
  have h1 : (y 1 : ℕ) < 512 := (y 1).isLt
  have e : y = ix2 ⟨(⟨(y 0 : ℕ) / 64, by omega⟩ : Fin 64) * 64 + (⟨(y 0 : ℕ) % 64, by omega⟩ : Fin 64), by dsimp; omega⟩
      ⟨(⟨(y 1 : ℕ) / 64, by omega⟩ : Fin 8) * 64 + (⟨(y 1 : ℕ) % 64, by omega⟩ : Fin 64), by dsimp; omega⟩ := by blk_ext
  refine (congrArg _ e).trans ((dq_at m c _ _ _ _).trans ?_)
  unfold dqV
  refine Fin.sum_fin_congr fun k => ?_
  refine congrArg₂ (· * ·) ?_ rfl
  show m _ _ = m _ _
  blk_ext

/-- The reference's gradient of the increments, after all steps of its scan, is `dgV` of the arguments. -/
theorem dg_eq : (STEP^[64] (entryContents preI m c)) (Proc.devRef .tc main_v4_5)
    = dgV (m ((c.tc : Thread nD τ).loc main_arg0)) (m ((c.tc : Thread nD τ).loc main_arg1)) (m ((c.tc : Thread nD τ).loc main_arg3)) := by
  funext y
  have e : y = ix4 (y 0) (y 1) (y 2) (y 3) := by blk_ext
  exact (congrArg _ e).trans (dg_at m c _ _ _ _)

/-- The reference's gradient of the transitions is `daV` of the arguments. -/
theorem da_eq : out_main_v14 (STEP^[64] (entryContents preI m c))
    = daV (m ((c.tc : Thread nD τ).loc main_arg0)) (m ((c.tc : Thread nD τ).loc main_arg1)) (m ((c.tc : Thread nD τ).loc main_arg2))
        (m ((c.tc : Thread nD τ).loc main_arg3)) := by
  funext y
  have e : y = ix4 (y 0) (y 1) (y 2) (y 3) := by blk_ext
  exact (congrArg _ e).trans (da_at m c _ _ _ _)

/-- The reference runs to its end, keeps its arguments, and leaves every semaphore counter at zero. -/
theorem frame_ref : Cert.quiescent_ReferenceIdeal := by
  intro m g _
  exact (θ_run Cert.ReferenceIdeal.defs _ _).mono
    (fun r h => ⟨fun c => (h c).2.2.2, sem_eq_zero_of_no_sems (by decide) r.2⟩) (Cert.ReferenceIdeal.Value.run m g)

end Cert.ReferenceIdeal.R2Bwd

end
-- ==== Proof.R2BwdTiles.lean ====
/- The gradient of the data-dependent recurrence (`r2_bwd`), kernel side, within one grid point: a point walks the eight
   chunks of its block from the last to the first; `dst` is the gradient of the state after `n` of them. -/
module

public import proofs.«01_k».proof.Proof.Gen.KernelIdeal.Value
public import proofs.«01_k».proof.Proof.R2BwdRef
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.R2Bwd

open Cert.KernelIdeal Cert.KernelIdeal.Gen

variable (m : (ℓ : Loc nD τ sig) → Buf (Elt Ideal) ℓ)

/-- A 64×64 tile of a 512×512 block: chunk `j`'s tokens, head `h`'s channels. -/
def tile (B : Vec Ideal S512x512 .f32) (j h : Fin 8) : Vec Ideal S64x64 .f32 :=
  View.ld B (Rect.unit (s := S512x512) ![64 * (j : ℕ), 64 * (h : ℕ)] S64x64.size (by
    intro a; fin_cases a <;> dsimp <;> omega))

/-- A chunk's eight matrices of a block of eight chunks. -/
def slab (B : Vec Ideal S8x8x64x64 .f32) (j : Fin 8) : Vec Ideal S1x8x64x64 .f32 :=
  View.ld B (Rect.unit (s := S8x8x64x64) ![(j : ℕ), 0, 0, 0] S1x8x64x64.size (by
    intro a; fin_cases a <;> dsimp <;> omega))

/-- An entry of a tile in its block. -/
theorem tile_at (B : Vec Ideal S512x512 .f32) (j h : Fin 8) (t i : Fin 64) :
    tile B j h (ix2 t i) = B (ix2 ⟨64 * j + t, by omega⟩ ⟨64 * h + i, by omega⟩) := by
  pointwise [tile]
  blk_ext

/-- An entry of a chunk's matrix in the block of eight chunks. -/
theorem slab_at (B : Vec Ideal S8x8x64x64 .f32) (j h : Fin 8) (t i : Fin 64) :
    slab B j (ix4 0 h t i) = B (ix4 j h t i) := by
  pointwise [slab]
  blk_ext

/-- The stack of a chunk's eight tiles. -/
def stack (B : Vec Ideal S512x512 .f32) (j : Fin 8) : FVec Ideal S8x64x64 .f32 :=
  k0_pay4 (tile B j 0) (tile B j 1) (tile B j 2) (tile B j 3) (tile B j 4) (tile B j 5) (tile B j 6) (tile B j 7)

/-- An entry of a chunk's stack in the block of tokens. -/
theorem stack_at (B : Vec Ideal S512x512 .f32) (j h : Fin 8) (t i : Fin 64) :
    stack B j (ix3 h t i) = B (ix2 ⟨64 * j + t, by omega⟩ ⟨64 * h + i, by omega⟩) := by
  refine Eq.trans ?_ (tile_at B j h t i)
  unfold stack
  fin_cases h
  all_goals pointwise [k0_pay4]

/-- One chunk's step of the state's gradient. -/
def step (Y Q : Vec Ideal S512x512 .f32) (A : Vec Ideal S8x8x64x64 .f32) (D : FVec Ideal S8x64x64 .f32) (j : Fin 8) :
    FVec Ideal S8x64x64 .f32 :=
  k0_pay11 (stack Y j) (k0_pay10 D (slab A j)) (tile Q j 0) (tile Q j 1) (tile Q j 2) (tile Q j 3) (tile Q j 4)
    (tile Q j 5) (tile Q j 6) (tile Q j 7)

/-- The contraction of a step, at variable stacks. -/
theorem pay11_at (U V : FVec Ideal S8x64x64 .f32) (q0 q1 q2 q3 q4 q5 q6 q7 : Vec Ideal S64x64 .f32) (h : Fin 8) (i l : Fin 64) :
    k0_pay11 U V q0 q1 q2 q3 q4 q5 q6 q7 (ix3 h i l)
      = V (ix3 h i l) + ∑ t : Fin 64, U (ix3 h t i) * k0_pay4 q0 q1 q2 q3 q4 q5 q6 q7 (ix3 h t l) := by
  have : k0_pay11 U V q0 q1 q2 q3 q4 q5 q6 q7
    = addf V (matmul dot_S8x64x64_S8x64x64_S8x64x64_1_1_2_2_0_0 none (truncf .bf16 U bitsLt_bf16_f32)
        (truncf .bf16 (k0_pay4 q0 q1 q2 q3 q4 q5 q6 q7) bitsLt_bf16_f32) (constant S8x64x64 .f32 0x00000000#32)) := rfl
  rw [this]
  generalize k0_pay4 q0 q1 q2 q3 q4 q5 q6 q7 = W
  pointwise

/-- The state's gradient carried through a chunk's transition, as a sum. -/
theorem pay10_at (D : FVec Ideal S8x64x64 .f32) (a : Vec Ideal S1x8x64x64 .f32) (h : Fin 8) (i l : Fin 64) :
    k0_pay10 D a (ix3 h i l) = ∑ k : Fin 64, D (ix3 h i k) * a (ix4 0 h l k) := by
  pointwise [k0_pay10]

/-- A step's entries: the gradient carried through the transition, and the read-out's part over the chunk's tokens. -/
theorem step_at (Y Q : Vec Ideal S512x512 .f32) (A : Vec Ideal S8x8x64x64 .f32) (D : FVec Ideal S8x64x64 .f32) (j h : Fin 8)
    (i l : Fin 64) :
    step Y Q A D j (ix3 h i l) = (∑ k : Fin 64, D (ix3 h i k) * A (ix4 j h l k))
      + ∑ t : Fin 64, Y (ix2 ⟨64 * j + t, by omega⟩ ⟨64 * h + i, by omega⟩) * Q (ix2 ⟨64 * j + t, by omega⟩ ⟨64 * h + l, by omega⟩) := by
  unfold step
  rw [pay11_at, pay10_at]
  refine congrArg₂ (· + ·) (Fin.sum_fin_congr fun k => ?_) (Fin.sum_fin_congr fun t => ?_)
  · rw [slab_at]
  · rw [stack_at]
    exact congrArg (_ * ·) (stack_at Q j h t l)

/-- The state's gradient after `n` of the point's chunks, last chunk first. -/
def dst (Y Q : Vec Ideal S512x512 .f32) (A : Vec Ideal S8x8x64x64 .f32) (D : FVec Ideal S8x64x64 .f32) : ℕ → FVec Ideal S8x64x64 .f32
  | 0 => D
  | n + 1 => step Y Q A (dst Y Q A D n) ⟨7 - n, by omega⟩

/-- What a point writes of the states' gradients. -/
def dgOut (Y Q : Vec Ideal S512x512 .f32) (A : Vec Ideal S8x8x64x64 .f32) (D : FVec Ideal S8x64x64 .f32) : Vec Ideal S8x8x64x64 .f32 :=
  fun y => dst Y Q A D (7 - (y 0 : ℕ)) (ix3 (y 1) (y 2) (y 3))

/-- What a point writes of the transitions' gradients. -/
def daOut (Y Q : Vec Ideal S512x512 .f32) (A S : Vec Ideal S8x8x64x64 .f32) (D : FVec Ideal S8x64x64 .f32) : Vec Ideal S8x8x64x64 .f32 :=
  fun y => ∑ k : Fin 64, S (ix4 (y 0) (y 1) k (y 2)) * dst Y Q A D (7 - (y 0 : ℕ)) (ix3 (y 1) k (y 3))

/-- What a point writes of the queries' gradient. -/
def dqOut (Y : Vec Ideal S512x512 .f32) (S : Vec Ideal S8x8x64x64 .f32) : Vec Ideal S512x512 .f32 :=
  fun y => ∑ i : Fin 64, Y (ix2 (y 0) ⟨64 * ((y 1 : ℕ) / 64) + i, by have := (y 1).isLt; dsimp at this; omega⟩)
    * S (ix4 ⟨(y 0 : ℕ) / 64, by have := (y 0).isLt; dsimp at this; omega⟩ ⟨(y 1 : ℕ) / 64, by have := (y 1).isLt; dsimp at this; omega⟩ i
        ⟨(y 1 : ℕ) % 64, by omega⟩)

/-- The stored state's gradient of a chunk, read at the position where it lies in the block. -/
theorem dg_tile (Y Q : Vec Ideal S512x512 .f32) (A : Vec Ideal S8x8x64x64 .f32) (D : FVec Ideal S8x64x64 .f32) (n : ℕ) (hn : n ≤ 7)
    (y : S8x8x64x64.Idx) (x : S1x8x64x64.Idx) (h0 : (y 0 : ℕ) = 7 - n) (h1 : (y 1 : ℕ) = x 1) (h2 : (y 2 : ℕ) = x 2) (h3 : (y 3 : ℕ) = x 3) :
    k0_pay5 (F := Ideal) (dst Y Q A D n) x = dgOut Y Q A D y := by
  have e : 7 - (y 0 : ℕ) = n := by omega
  unfold dgOut
  rw [e]
  pointwise [k0_pay5]
  blk_ext

/-- The transition's gradient of a chunk, as a sum. -/
theorem pay8_at (S : Vec Ideal S1x8x64x64 .f32) (D : FVec Ideal S8x64x64 .f32) (x : S1x8x64x64.Idx) :
    k0_pay8 (k0_pay6 S) (k0_pay7 D) x = ∑ k : Fin 64, S (ix4 0 (x 1) k (x 2)) * D (ix3 (x 1) k (x 3)) := by
  pointwise [k0_pay8, k0_pay6, k0_pay7, k0_pay3]

/-- The stored transition's gradient of a chunk, read at the position where it lies in the block. -/
theorem da_tile (Y Q : Vec Ideal S512x512 .f32) (A S : Vec Ideal S8x8x64x64 .f32) (D : FVec Ideal S8x64x64 .f32) (n : ℕ) (hn : n ≤ 7)
    (y : S8x8x64x64.Idx) (x : S1x8x64x64.Idx) (h0 : (y 0 : ℕ) = 7 - n) (h1 : (y 1 : ℕ) = x 1) (h2 : (y 2 : ℕ) = x 2) (h3 : (y 3 : ℕ) = x 3) :
    k0_pay8 (k0_pay6 (slab S ⟨7 - n, by omega⟩)) (k0_pay7 (dst Y Q A D n)) x = daOut Y Q A S D y := by
  have e : 7 - (y 0 : ℕ) = n := by omega
  unfold daOut
  rw [e, pay8_at]
  refine Fin.sum_fin_congr fun k => ?_
  refine congrArg₂ (· * ·) ((slab_at S _ (x 1) k (x 2)).trans ?_) ?_
  · blk_ext
  · generalize dst Y Q A D n = E
    blk_ext

/-- The queries' gradient of a chunk, as a sum for each head. -/
theorem pay9_at (U : FVec Ideal S8x64x64 .f32) (S : Vec Ideal S1x8x64x64 .f32) (h : Fin 8) (t j : Fin 64) :
    k0_pay9 (k0_pay3 S) U (ix2 t ⟨64 * h + j, by omega⟩) = ∑ i : Fin 64, U (ix3 h t i) * S (ix4 0 h i j) := by
  fin_cases h
  all_goals (pointwise [k0_pay9, k0_pay3]; try blk_point [])

/-- The stored queries' gradient of a chunk, read at the position where it lies in the block. -/
theorem dq_tile (Y : Vec Ideal S512x512 .f32) (S : Vec Ideal S8x8x64x64 .f32) (j : Fin 8)
    (y : S512x512.Idx) (x : S64x512.Idx) (h0 : (y 0 : ℕ) = 64 * j + x 0) (h1 : (y 1 : ℕ) = x 1) :
    k0_pay9 (k0_pay3 (slab S j)) (stack Y j) x = dqOut Y S y := by
  have hx0 := (x 0).isLt
  have hx1 := (x 1).isLt
  dsimp at hx0 hx1
  have e : x = ix2 ⟨x 0, hx0⟩ ⟨64 * (⟨(x 1 : ℕ) / 64, by omega⟩ : Fin 8) + (⟨(x 1 : ℕ) % 64, by omega⟩ : Fin 64), by dsimp; omega⟩ := by
    blk_ext
  rw [e, pay9_at]
  unfold dqOut
  refine Fin.sum_fin_congr fun k => ?_
  rw [slab_at, stack_at]
  refine congrArg₂ (· * ·) ?_ ?_
  · blk_ext
  · blk_ext

/-- The states' gradients that the first point writes: it starts from zero. -/
theorem dg_A (c : Dev nD) (t : Fin cfg0.N) (h0 : t.val % 8 = 0) (y) :
    (outsAt0 m c t.val t.isLt).2.2.1 y = dgOut (iblk m c 0 t) (iblk m c 1 t) (iblk m c 3 t) k0_pay2 y := by
  rw [outsAt0_A m c t h0]
  frame_out
  canon_tiles x h
  case piece0 => exact dg_tile _ _ _ _ 7 (by omega) y x (by omega) h1 h2 h3
  case piece1 => exact dg_tile _ _ _ _ 6 (by omega) y x (by omega) h1 h2 h3
  case piece2 => exact dg_tile _ _ _ _ 5 (by omega) y x (by omega) h1 h2 h3
  case piece3 => exact dg_tile _ _ _ _ 4 (by omega) y x (by omega) h1 h2 h3
  case piece4 => exact dg_tile _ _ _ _ 3 (by omega) y x (by omega) h1 h2 h3
  case piece5 => exact dg_tile _ _ _ _ 2 (by omega) y x (by omega) h1 h2 h3
  case piece6 => exact dg_tile _ _ _ _ 1 (by omega) y x (by omega) h1 h2 h3
  case piece7 => exact dg_tile _ _ _ _ 0 (by omega) y x (by omega) h1 h2 h3

/-- The states' gradients that a later point writes: it starts from what the point before left in the scratch. -/
theorem dg_B (c : Dev nD) (t : Fin cfg0.N) (h0 : ¬t.val % 8 = 0) (y) :
    (outsAt0 m c t.val t.isLt).2.2.1 y = dgOut (iblk m c 0 t) (iblk m c 1 t) (iblk m c 3 t) (outsAt0 m c (t.val - 1) (Nat.lt_of_le_of_lt (Nat.sub_le _ _) t.isLt)).2.2.2 y := by
  rw [outsAt0_B m c t h0]
  frame_out
  rw [(Memref.isWhole_whole cc0_scratch0).read_unread]
  canon_tiles x h
  case piece0 => exact dg_tile _ _ _ _ 7 (by omega) y x (by omega) h1 h2 h3
  case piece1 => exact dg_tile _ _ _ _ 6 (by omega) y x (by omega) h1 h2 h3
  case piece2 => exact dg_tile _ _ _ _ 5 (by omega) y x (by omega) h1 h2 h3
  case piece3 => exact dg_tile _ _ _ _ 4 (by omega) y x (by omega) h1 h2 h3
  case piece4 => exact dg_tile _ _ _ _ 3 (by omega) y x (by omega) h1 h2 h3
  case piece5 => exact dg_tile _ _ _ _ 2 (by omega) y x (by omega) h1 h2 h3
  case piece6 => exact dg_tile _ _ _ _ 1 (by omega) y x (by omega) h1 h2 h3
  case piece7 => exact dg_tile _ _ _ _ 0 (by omega) y x (by omega) h1 h2 h3

/-- The transitions' gradients that the first point writes. -/
theorem da_A (c : Dev nD) (t : Fin cfg0.N) (h0 : t.val % 8 = 0) (y) :
    (outsAt0 m c t.val t.isLt).2.1 y = daOut (iblk m c 0 t) (iblk m c 1 t) (iblk m c 3 t) (iblk m c 2 t) k0_pay2 y := by
  rw [outsAt0_A m c t h0]
  frame_out
  canon_tiles x h
  case piece0 => exact da_tile _ _ _ _ _ 7 (by omega) y x (by omega) h1 h2 h3
  case piece1 => exact da_tile _ _ _ _ _ 6 (by omega) y x (by omega) h1 h2 h3
  case piece2 => exact da_tile _ _ _ _ _ 5 (by omega) y x (by omega) h1 h2 h3
  case piece3 => exact da_tile _ _ _ _ _ 4 (by omega) y x (by omega) h1 h2 h3
  case piece4 => exact da_tile _ _ _ _ _ 3 (by omega) y x (by omega) h1 h2 h3
  case piece5 => exact da_tile _ _ _ _ _ 2 (by omega) y x (by omega) h1 h2 h3
  case piece6 => exact da_tile _ _ _ _ _ 1 (by omega) y x (by omega) h1 h2 h3
  case piece7 => exact da_tile _ _ _ _ _ 0 (by omega) y x (by omega) h1 h2 h3

/-- The transitions' gradients that a later point writes. -/
theorem da_B (c : Dev nD) (t : Fin cfg0.N) (h0 : ¬t.val % 8 = 0) (y) :
    (outsAt0 m c t.val t.isLt).2.1 y = daOut (iblk m c 0 t) (iblk m c 1 t) (iblk m c 3 t) (iblk m c 2 t) (outsAt0 m c (t.val - 1) (Nat.lt_of_le_of_lt (Nat.sub_le _ _) t.isLt)).2.2.2 y := by
  rw [outsAt0_B m c t h0]
  frame_out
  rw [(Memref.isWhole_whole cc0_scratch0).read_unread]
  canon_tiles x h
  case piece0 => exact da_tile _ _ _ _ _ 7 (by omega) y x (by omega) h1 h2 h3
  case piece1 => exact da_tile _ _ _ _ _ 6 (by omega) y x (by omega) h1 h2 h3
  case piece2 => exact da_tile _ _ _ _ _ 5 (by omega) y x (by omega) h1 h2 h3
  case piece3 => exact da_tile _ _ _ _ _ 4 (by omega) y x (by omega) h1 h2 h3
  case piece4 => exact da_tile _ _ _ _ _ 3 (by omega) y x (by omega) h1 h2 h3
  case piece5 => exact da_tile _ _ _ _ _ 2 (by omega) y x (by omega) h1 h2 h3
  case piece6 => exact da_tile _ _ _ _ _ 1 (by omega) y x (by omega) h1 h2 h3
  case piece7 => exact da_tile _ _ _ _ _ 0 (by omega) y x (by omega) h1 h2 h3

/-- The queries' gradient that the first point writes. -/
theorem dq_A (c : Dev nD) (t : Fin cfg0.N) (h0 : t.val % 8 = 0) (y) :
    (outsAt0 m c t.val t.isLt).1 y = dqOut (iblk m c 0 t) (iblk m c 2 t) y := by
  rw [outsAt0_A m c t h0]
  frame_out
  canon_tiles x h
  case piece0 => exact dq_tile _ _ 0 y x (by dsimp; omega) h1
  case piece1 => exact dq_tile _ _ 1 y x (by dsimp; omega) h1
  case piece2 => exact dq_tile _ _ 2 y x (by dsimp; omega) h1
  case piece3 => exact dq_tile _ _ 3 y x (by dsimp; omega) h1
  case piece4 => exact dq_tile _ _ 4 y x (by dsimp; omega) h1
  case piece5 => exact dq_tile _ _ 5 y x (by dsimp; omega) h1
  case piece6 => exact dq_tile _ _ 6 y x (by dsimp; omega) h1
  case piece7 => exact dq_tile _ _ 7 y x (by dsimp; omega) h1

/-- The queries' gradient that a later point writes. -/
theorem dq_B (c : Dev nD) (t : Fin cfg0.N) (h0 : ¬t.val % 8 = 0) (y) :
    (outsAt0 m c t.val t.isLt).1 y = dqOut (iblk m c 0 t) (iblk m c 2 t) y := by
  rw [outsAt0_B m c t h0]
  frame_out
  canon_tiles x h
  case piece0 => exact dq_tile _ _ 0 y x (by dsimp; omega) h1
  case piece1 => exact dq_tile _ _ 1 y x (by dsimp; omega) h1
  case piece2 => exact dq_tile _ _ 2 y x (by dsimp; omega) h1
  case piece3 => exact dq_tile _ _ 3 y x (by dsimp; omega) h1
  case piece4 => exact dq_tile _ _ 4 y x (by dsimp; omega) h1
  case piece5 => exact dq_tile _ _ 5 y x (by dsimp; omega) h1
  case piece6 => exact dq_tile _ _ 6 y x (by dsimp; omega) h1
  case piece7 => exact dq_tile _ _ 7 y x (by dsimp; omega) h1

/-- The last chunk's step. -/
theorem pay1_at (U V W : FVec Ideal S8x64x64 .f32) (h : Fin 8) (i l : Fin 64) :
    k0_pay1 V W (k0_pay86 U) (ix3 h i l) = V (ix3 h i l) + ∑ t : Fin 64, U (ix3 h t i) * W (ix3 h t l) := by
  pointwise [k0_pay1, k0_pay86]

/-- The last chunk's step of a point is the recurrence's eighth step. -/
theorem last_at (Y Q : Vec Ideal S512x512 .f32) (A : Vec Ideal S8x8x64x64 .f32) (D : FVec Ideal S8x64x64 .f32) (h : Fin 8)
    (i l : Fin 64) :
    k0_pay1 (k0_pay10 (dst Y Q A D 7) (slab A 0)) (stack Q 0) (k0_pay86 (stack Y 0)) (ix3 h i l) = dst Y Q A D 8 (ix3 h i l) :=
  (pay1_at _ _ _ h i l).trans (pay11_at _ _ _ _ _ _ _ _ _ _ h i l).symm

/-- What the first point leaves in the scratch: the state's gradient after its eight chunks, from zero. -/
theorem scr_A (c : Dev nD) (t : Fin cfg0.N) (h0 : t.val % 8 = 0) (h : Fin 8) (i l : Fin 64) :
    (outsAt0 m c t.val t.isLt).2.2.2 (ix3 h i l)
      = dst (iblk m c 0 t) (iblk m c 1 t) (iblk m c 3 t) k0_pay2 8 (ix3 h i l) := by
  rw [outsAt0_A m c t h0]
  frame_out
  exact last_at _ _ _ _ h i l

/-- What a later point leaves in the scratch: the state's gradient after its eight chunks, from the scratch before it. -/
theorem scr_B (c : Dev nD) (t : Fin cfg0.N) (h0 : ¬t.val % 8 = 0) (h : Fin 8) (i l : Fin 64) :
    (outsAt0 m c t.val t.isLt).2.2.2 (ix3 h i l)
      = dst (iblk m c 0 t) (iblk m c 1 t) (iblk m c 3 t)
          (outsAt0 m c (t.val - 1) (Nat.lt_of_le_of_lt (Nat.sub_le _ _) t.isLt)).2.2.2 8 (ix3 h i l) := by
  rw [outsAt0_B m c t h0]
  frame_out
  rw [(Memref.isWhole_whole cc0_scratch0).read_unread]
  exact last_at _ _ _ _ h i l

end Cert.KernelIdeal.R2Bwd

end
-- ==== Proof.R2Bwd.lean ====
/- The gradient of the data-dependent recurrence (`r2_bwd`): the eight points walk the blocks backwards and carry the
   state's gradient in a scratch; the reference scans the 64 chunks in reverse. -/
module

public import proofs.«01_k».proof.Proof.Gen.KernelIdeal.Value
public import proofs.«01_k».proof.Proof.R2BwdTiles
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.R2Bwd

open Cert.KernelIdeal Cert.KernelIdeal.Gen

variable (m : (ℓ : Loc nD τ sig) → Buf (Elt Ideal) ℓ)

/-- The windows' block indices: the blocks run backwards. -/
theorem idx : ∀ t : Fin cfg0.N, win0_0.index t = ![7 - t.val, 0] ∧ win0_1.index t = ![7 - t.val, 0]
    ∧ win0_2.index t = ![7 - t.val, 0, 0, 0] ∧ win0_3.index t = ![7 - t.val, 0, 0, 0] ∧ win0_4.index t = ![7 - t.val, 0]
    ∧ win0_5.index t = ![7 - t.val, 0, 0, 0] ∧ win0_6.index t = ![7 - t.val, 0, 0, 0] :=
  (by decide +kernel : ∀ t : Fin grid0.N, _)

open Cert.ReferenceIdeal.R2Bwd (G dqV dgV daV)

/-- The state's gradient over the kernel's argument arrays. -/
abbrev Gk (c : Dev nD) (n : ℕ) : Fin 8 → Fin 64 → Fin 64 → EReal :=
  G (fun r s => m ((c.tc : Thread nD τ).loc main_arg0) (ix2 r s)) (fun r s => m ((c.tc : Thread nD τ).loc main_arg1) (ix2 r s))
    (fun e h i j => m ((c.tc : Thread nD τ).loc main_arg3) (ix4 e h i j)) n

/-- Within a point, the state's gradient follows the recurrence. -/
theorem dst_eq (c : Dev nD) (t : Fin cfg0.N) (D : FVec Ideal S8x64x64 .f32)
    (hD : ∀ h i k, D (ix3 h i k) = Gk m c (8 * t.val) h i k) (n : ℕ) (hn : n ≤ 8) (h : Fin 8) (i k : Fin 64) :
    dst (iblk m c 0 t) (iblk m c 1 t) (iblk m c 3 t) D n (ix3 h i k) = Gk m c (8 * t.val + n) h i k := by
  have ht : t.val < 8 := lt_of_lt_of_eq t.isLt N_0
  induction n generalizing h i k with
  | zero => exact hD h i k
  | succ n ih =>
    obtain ⟨p, hp⟩ : ∃ p, p = 8 * t.val + n := ⟨_, rfl⟩
    rw [← hp] at ih
    refine (step_at _ _ _ _ _ h i k).trans ((add_comm _ _).trans (Eq.trans ?_ (congrArg (fun N => Gk m c N h i k) (by omega : p + 1 = 8 * t.val + (n + 1)))))
    refine congrArg₂ (· + ·) (Fin.sum_fin_congr fun x => ?_) (Fin.sum_fin_congr fun x => ?_)
    · refine congrArg₂ (· * ·) ?_ ?_
      · blk_point [iblk, V, idx t]
      · blk_point [iblk, V, idx t]
    · refine congrArg₂ (· * ·) (ih (by omega) h i x) ?_
      blk_point [iblk, V, idx t]

/-- The scratch's start is zero. -/
theorem zero_at (h : Fin 8) (i k : Fin 64) : (k0_pay2 (F := Ideal)) (ix3 h i k) = 0 := by
  pointwise [k0_pay2]

/-- The carried scratch after a point: the state's gradient after all chunks so far. -/
theorem scr_eq (c : Dev nD) : ∀ (n : ℕ) (hn : n < cfg0.N) (h : Fin 8) (i k : Fin 64),
    (outsAt0 m c n hn).2.2.2 (ix3 h i k) = Gk m c (8 * (n + 1)) h i k := by
  intro n
  induction n with
  | zero =>
    intro hn h i k
    exact (scr_A m c ⟨0, hn⟩ (by rfl) h i k).trans (dst_eq m c ⟨0, hn⟩ _ (fun h i k => zero_at h i k) 8 (by omega) h i k)
  | succ n ih =>
    intro hn h i k
    have ht : n + 1 < 8 := lt_of_lt_of_eq hn N_0
    exact (scr_B m c ⟨n + 1, hn⟩ (by dsimp; omega) h i k).trans
      (dst_eq m c ⟨n + 1, hn⟩ _ (fun h i k => ih _ h i k) 8 (by omega) h i k)

/-- What each point writes, over the state's gradient at its start. -/
theorem outs_eq (c : Dev nD) (t : Fin cfg0.N) : ∃ D : FVec Ideal S8x64x64 .f32,
    (∀ h i k, D (ix3 h i k) = Gk m c (8 * t.val) h i k)
    ∧ (∀ y, (outsAt0 m c t.val t.isLt).1 y = dqOut (iblk m c 0 t) (iblk m c 2 t) y)
    ∧ (∀ y, (outsAt0 m c t.val t.isLt).2.1 y = daOut (iblk m c 0 t) (iblk m c 1 t) (iblk m c 3 t) (iblk m c 2 t) D y)
    ∧ (∀ y, (outsAt0 m c t.val t.isLt).2.2.1 y = dgOut (iblk m c 0 t) (iblk m c 1 t) (iblk m c 3 t) D y) := by
  have ht : t.val < 8 := lt_of_lt_of_eq t.isLt N_0
  by_cases h0 : t.val % 8 = 0
  · refine ⟨k0_pay2, fun h i k => ?_, dq_A m c t h0, da_A m c t h0, dg_A m c t h0⟩
    have : t.val = 0 := by omega
    rw [this]
    exact zero_at h i k
  · refine ⟨_, fun h i k => ?_, dq_B m c t h0, da_B m c t h0, dg_B m c t h0⟩
    refine (scr_eq m c (t.val - 1) _ h i k).trans (congrArg (fun N => Gk m c N h i k) ?_)
    omega

/-- The state's gradient at equal indices is the same. -/
theorem Gk_congr (c : Dev nD) {n n' : ℕ} {h h' : Fin 8} {i i' k k' : Fin 64} (hn : n = n') (hh : (h : ℕ) = h') (hi : (i : ℕ) = i')
    (hk : (k : ℕ) = k') : Gk m c n h i k = Gk m c n' h' i' k' := by
  rw [hn, Fin.ext hh, Fin.ext hi, Fin.ext hk]

/-- The kernel's gradient of the increments is `dgV` of the arguments. -/
theorem final_dg (c : Dev nD) : (dats m 0 c).arrAt 6 (cfgs 0).N
    = dgV (m ((c.tc : Thread nD τ).loc main_arg0)) (m ((c.tc : Thread nD τ).loc main_arg1)) (m ((c.tc : Thread nD τ).loc main_arg3)) := by
  refine (dats m 0 c).arrAt_eq_of_covers 6 _ (by decide +kernel) fun t hf y => ?_
  have ht : t.val < 8 := lt_of_lt_of_eq t.isLt N_0
  obtain ⟨D, hD, -, -, h⟩ := outs_eq m c t
  have hy : (y 0 : ℕ) < 8 := (y 0).isLt
  blk_simp
  rw [after0_6, h]
  refine (dst_eq m c t D hD _ (by omega) (y 1) (y 2) (y 3)).trans ?_
  refine Gk_congr m c ?_ ?_ ?_ ?_
  all_goals (blk_simp [idx t] <;> try omega)

/-- The kernel's gradient of the transitions is `daV` of the arguments. -/
theorem final_da (c : Dev nD) : (dats m 0 c).arrAt 5 (cfgs 0).N
    = daV (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 5 _ (by decide +kernel) fun t hf y => ?_
  have ht : t.val < 8 := lt_of_lt_of_eq t.isLt N_0
  obtain ⟨D, hD, -, h, -⟩ := outs_eq m c t
  have hy : (y 0 : ℕ) < 8 := (y 0).isLt
  blk_simp
  rw [after0_5, h]
  refine Fin.sum_fin_congr fun k => ?_
  refine (mul_comm _ _).trans (congrArg₂ (· * ·) ((dst_eq m c t D hD _ (by omega) (y 1) k (y 3)).trans ?_) ?_)
  · refine Gk_congr m c ?_ ?_ rfl ?_
    all_goals (blk_simp [idx t] <;> try omega)
  · blk_point [iblk, V, idx t]

/-- The kernel's gradient of the queries is `dqV` of the arguments. -/
theorem final_dq (c : Dev nD) : (dats m 0 c).arrAt 4 (cfgs 0).N
    = dqV (m ((c.tc : Thread nD τ).loc main_arg0)) (m ((c.tc : Thread nD τ).loc main_arg2)) := by
  refine (dats m 0 c).arrAt_eq_of_covers 4 _ (by decide +kernel) fun t hf y => ?_
  have ht : t.val < 8 := lt_of_lt_of_eq t.isLt N_0
  obtain ⟨D, hD, h, -, -⟩ := outs_eq m c t
  have hy : (y 0 : ℕ) < 512 := (y 0).isLt
  blk_simp
  rw [after0_4, h]
  refine Fin.sum_fin_congr fun k => ?_
  refine congrArg₂ (· * ·) ?_ ?_
  · blk_point [iblk, V, idx t]
  · blk_point [iblk, V, idx t]

/-- The kernel and the reference give equal results on the same arguments. -/
theorem algebraic : Cert.algebraic_KernelIdeal_ReferenceIdeal := by
  pair_intro
  · run_from Cert.KernelIdeal.Gen.run_main m g
  · refine (θ_run Cert.ReferenceIdeal.defs _ _).mono (fun r h c => ?_) (Cert.ReferenceIdeal.Value.run m' g')
    have hc := h c
    rw [Cert.ReferenceIdeal.R2Bwd.dq_eq, Cert.ReferenceIdeal.R2Bwd.dg_eq, Cert.ReferenceIdeal.R2Bwd.da_eq] at hc
    obtain ⟨a0, a1, a2, a3⟩ := hagree c
    refine ⟨hc.1.trans (Eq.trans ?_ (final_dq m c).symm), hc.2.1.trans (Eq.trans ?_ (final_da m c).symm),
      hc.2.2.1.trans (Eq.trans ?_ (final_dg m c).symm), hc.2.2.2⟩
    · exact congrArg₂ dqV a0 a2
    · exact (congrArg₂ (fun x y => daV x y _ _) a0 a1).trans (congrArg₂ (daV _ _) a2 a3)
    · exact (congrArg₂ (fun x y => dgV x y _) a0 a1).trans (congrArg (dgV _ _) a3)

/-- The reference's frame. -/
theorem frame_ref : Cert.quiescent_ReferenceIdeal := Cert.ReferenceIdeal.R2Bwd.frame_ref

end Cert.KernelIdeal.R2Bwd

end
-- ==== Proof.R2FwdRef.lean ====
/- The reference of the state recurrence: its loop over the 64 chunks, entry by entry. -/
module

public import proofs.«01_k».proof.Proof.Gen.Reference2Ideal.Run
public import proofs.«01_k».proof.Defs
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem Idealize.ShloMosaic.StableHlo

namespace Cert.Reference2Ideal.R2Fwd

open Cert.Reference2Ideal Cert.Reference2Ideal.Gen Cert.Reference2Ideal.Value

/-- The state before chunk `n`: each chunk multiplies it by the chunk's transition `a` and adds the chunk's term `g`. -/
def St (a g : Fin 64 → Fin 8 → Fin 64 → Fin 64 → EReal) : ℕ → Fin 8 → Fin 64 → Fin 64 → EReal
  | 0 => fun _ _ _ => 0
  | n + 1 => fun h i j =>
      (∑ k : Fin 64, St a g n h i k * a ⟨n % 64, Nat.mod_lt _ (by decide)⟩ h k j) + g ⟨n % 64, Nat.mod_lt _ (by decide)⟩ h i j

variable (m : (ℓ : Loc nD τ sig) → Buf (Elt Ideal) ℓ) (c : Dev nD)

/-- The state over the argument arrays. -/
abbrev Sm (n : ℕ) : Fin 8 → Fin 64 → Fin 64 → EReal :=
  St (fun x h i j => m ((c.tc : Thread nD τ).loc main_arg0) (ix4 x h i j)) (fun x h i j => m ((c.tc : Thread nD τ).loc main_arg1) (ix4 x h i j)) n

/-- The loop's buffers before trip `n`. -/
structure Inv (V : Valuation τ sig (Elt Ideal)) (n : ℕ) : Prop where
  a : V (Proc.devRef .tc main_v2_0) = m ((c.tc : Thread nD τ).loc main_arg0)
  g : V (Proc.devRef .tc main_v2_1) = m ((c.tc : Thread nD τ).loc main_arg1)
  num : V (Proc.devRef .tc main_v2_2) = constantI S_ 32 (BitVec.ofNat 32 n)
  st : ∀ h i j, V (Proc.devRef .tc main_v2_3) (ix3 h i j) = Sm m c n h i j
  all : ∀ (x : Fin 64) h i j, x.val < n → V (Proc.devRef .tc main_v2_4) (ix4 x h i j) = Sm m c x h i j

set_option maxRecDepth 65536 in
/-- Before the first trip. -/
theorem inv_zero : Inv m c (entryContents preI m c) 0 := by
  constructor
  · simp only [entryContents, afterL_cons, afterL_nil]; after_reads_simp; try rfl
  · simp only [entryContents, afterL_cons, afterL_nil]; after_reads_simp; try rfl
  · simp only [entryContents, afterL_cons, afterL_nil]; after_reads_simp; try rfl
  · intro h i j
    simp only [entryContents, afterL_cons, afterL_nil]; after_reads_simp
    dsimp only [id]
    pointwise
    rfl
  · intro x h i j hx; omega

/-- The start of chunk `e` of an array of 64 chunks. -/
abbrev at0 (e : ℕ) : Fin 4 → Int := fun k => (((![constantI S_ 32 (BitVec.ofNat 32 e), constantI S_ 32 0#32, constantI S_ 32 0#32, constantI S_ 32 0#32] : Fin 4 → (⟨S_, .i32⟩ : BufTy).Contents (Elt Ideal))) k (Shape.Idx.first h_S_)).toInt

/-- It is `e` along the chunks and zero along the rest. -/
theorem at0_eq (e : ℕ) (he : e < 64) (k : Fin 4) : at0 e k = ((![e, 0, 0, 0] : Fin 4 → ℕ) k : Int) := by
  have h : ∀ e : Fin 64, (BitVec.ofNat 32 e).toInt = (e.val : Int) := by decide
  fin_cases k
  · exact h ⟨e, he⟩
  · rfl
  · rfl
  · rfl

/-- A chunk of an array of states. -/
theorem state_at (x : (⟨S64x8x64x64, .f32⟩ : BufTy).Contents (Elt Ideal)) (e : ℕ) (he : e < 64) (h : Fin 8) (i j : Fin 64) :
    shapeCast S8x64x64 (Host.dynamicSlice S1x8x64x64 x (at0 e) sliceFits_S64x8x64x64_S1x8x64x64) shapeCasts_S1x8x64x64_S8x64x64 (ix3 h i j)
      = x (ix4 ⟨e, he⟩ h i j) := by
  have hk : Shape.Slices S64x8x64x64 (![e, 0, 0, 0] : Fin 4 → ℕ) S1x8x64x64 := ⟨rfl, fun a => by fin_cases a <;> simp [S64x8x64x64, S1x8x64x64, Shape.size] <;> omega⟩
  rw [WordCmp.dynamicSlice_eq_extract _ _ _ _ _ hk (at0_eq e he)]
  pointwise

/-- A state written at its chunk of an array of states. -/
theorem put_at (x : (⟨S64x8x64x64, .f32⟩ : BufTy).Contents (Elt Ideal)) (u : (⟨S8x64x64, .f32⟩ : BufTy).Contents (Elt Ideal)) (e : ℕ) (he : e < 64) (y : Fin 64) (h : Fin 8) (i j : Fin 64) :
    Host.dynamicUpdateSlice x (broadcastInDim S1x8x64x64 ![1, 2, 3] bcast_S8x64x64_S1x8x64x64_1_2_3 u) (at0 e) updateFits_S64x8x64x64_S1x8x64x64 (ix4 y h i j)
      = if y.val = e then u (ix3 h i j) else x (ix4 y h i j) := by
  have hk : Shape.Slices S64x8x64x64 (![e, 0, 0, 0] : Fin 4 → ℕ) S1x8x64x64 := ⟨rfl, fun a => by fin_cases a <;> simp [S64x8x64x64, S1x8x64x64, Shape.size] <;> omega⟩
  rw [WordCmp.dynamicUpdateSlice_eq_update _ _ _ _ _ hk (at0_eq e he)]
  pointwise
  exact if_congr (by omega) rfl rfl

/-- One trip's new state. -/
theorem step_at (s v w : (⟨S8x64x64, .f32⟩ : BufTy).Contents (Elt Ideal)) (h : Fin 8) (i j : Fin 64) :
    addf (F := Ideal) (Host.dotGeneral (φ₁ := .f32) (φ₂ := .f32) dot_S8x64x64_S8x64x64_S8x64x64_2_1_1_2_0_0 none s v) w (ix3 h i j)
      = ((∑ k : Fin 64, s (ix3 h i k) * v (ix3 h k j)) + w (ix3 h i j) : EReal) := by
  pointwise

/-- One trip. -/
theorem inv_step (V : Valuation τ sig (Elt Ideal)) (n : ℕ) (hn : n < 64) (h : Inv m c V n) : Inv m c (STEP V) (n + 1) where
  a := (STEP_main_v2_0 V).trans h.a
  g := (STEP_main_v2_1 V).trans h.g
  num := (STEP_main_v2_2 V).trans (by
    unfold step_main_v2_2
    rw [h.num]
    funext i
    exact (BitVec.ofNat_add n 1).symm)
  st := fun x i j => by
    have e : (⟨n, hn⟩ : Fin 64) = ⟨n % 64, Nat.mod_lt _ (by decide)⟩ := Fin.ext (Nat.mod_eq_of_lt hn).symm
    rw [STEP_main_v2_3]
    unfold step_main_v2_3
    rw [h.num]
    dsimp only [id]
    refine (step_at _ _ _ x i j).trans ?_
    refine congrArg₂ (· + ·) (Finset.sum_congr rfl fun k _ => congrArg₂ (· * ·) (h.st x i k) ?_) ?_
    · refine (state_at _ _ hn x k j).trans ?_
      rw [h.a, e]
    · refine (state_at _ _ hn x i j).trans ?_
      rw [h.g, e]
  all := fun x k i j hx => by
    rw [STEP_main_v2_4]
    unfold step_main_v2_4
    rw [h.num]
    refine (put_at _ _ _ hn x k i j).trans ?_
    split_ifs with hy
    · rw [h.st, hy]
    · exact h.all x k i j (by omega)

/-- Before trip `n`. -/
theorem inv (n : ℕ) (hn : n ≤ 64) : Inv m c (STEP^[n] (entryContents preI m c)) n := by
  induction n with
  | zero => exact inv_zero m c
  | succ n ih => rw [Function.iterate_succ_apply']; exact inv_step m c _ n (by omega) (ih (by omega))

/-- The reference's states, entry by entry. -/
theorem all_at (e : Fin 64) (h : Fin 8) (i j : Fin 64) :
    (STEP^[64] (entryContents preI m c)) (Proc.devRef .tc main_v2_4) (ix4 e h i j) = Sm m c e h i j :=
  (inv m c 64 (by omega)).all e h i j e.isLt

/-- The reference's outputs of the queries, entry by entry. -/
theorem y_at (e t : Fin 64) (h : Fin 8) (i : Fin 64) :
    (out_main_v8 (STEP^[64] (entryContents preI m c)) (ix2 ⟨e * 64 + t, by omega⟩ ⟨h * 64 + i, by omega⟩) : EReal)
      = (∑ j : Fin 64, Sm m c e h i j * (m ((c.tc : Thread nD τ).loc main_arg2) (ix2 ⟨e * 64 + t, by omega⟩ ⟨h * 64 + j, by omega⟩) : EReal))
        + m ((c.tc : Thread nD τ).loc main_arg3) (ix2 ⟨e * 64 + t, by omega⟩ ⟨h * 64 + i, by omega⟩) := by
  have hg := fun j => all_at m c e h i j
  unfold out_main_v8
  rw [iter_main_arg2, iter_main_arg3]
  dsimp only [id]
  simp only [← hg]
  pointwise

/-- The states as a function of the argument arrays. -/
def stV (x0 x1 : Vec Ideal S64x8x64x64 .f32) : Vec Ideal S64x8x64x64 .f32 := fun y =>
  St (fun e h i j => x0 (ix4 e h i j)) (fun e h i j => x1 (ix4 e h i j)) (y 0 : ℕ) (y 1) (y 2) (y 3)

/-- The outputs as a function of the argument arrays. -/
def yV (x0 x1 : Vec Ideal S64x8x64x64 .f32) (x2 x3 : Vec Ideal S4096x512 .f32) : Vec Ideal S4096x512 .f32 := fun y =>
  (∑ j : Fin 64, St (fun e h i j => x0 (ix4 e h i j)) (fun e h i j => x1 (ix4 e h i j)) ((y 0 : ℕ) / 64)
      ⟨(y 1 : ℕ) / 64, by have := (y 1).isLt; dsimp at this; omega⟩ ⟨(y 1 : ℕ) % 64, by omega⟩ j
    * x2 (ix2 (y 0) ⟨(y 1 : ℕ) / 64 * 64 + j, by have := (y 1).isLt; dsimp at this; omega⟩)) + x3 y

/-- The reference's states are that function. -/
theorem st_eq : (STEP^[64] (entryContents preI m c)) (Proc.devRef .tc main_v2_4)
    = stV (m ((c.tc : Thread nD τ).loc main_arg0)) (m ((c.tc : Thread nD τ).loc main_arg1)) := by
  funext y
  have e : y = ix4 (y 0) (y 1) (y 2) (y 3) := by blk_ext
  exact (congrArg _ e).trans (all_at m c _ _ _ _)

/-- The reference's outputs are that function. -/
theorem y_eq : out_main_v8 (STEP^[64] (entryContents preI m c))
    = yV (m ((c.tc : Thread nD τ).loc main_arg0)) (m ((c.tc : Thread nD τ).loc main_arg1)) (m ((c.tc : Thread nD τ).loc main_arg2))
        (m ((c.tc : Thread nD τ).loc main_arg3)) := by
  funext y
  have h0 : (y 0 : ℕ) < 4096 := (y 0).isLt
  have h1 : (y 1 : ℕ) < 512 := (y 1).isLt
  have e : y = ix2 ⟨(⟨(y 0 : ℕ) / 64, by omega⟩ : Fin 64) * 64 + (⟨(y 0 : ℕ) % 64, by omega⟩ : Fin 64), by dsimp; omega⟩
      ⟨(⟨(y 1 : ℕ) / 64, by omega⟩ : Fin 8) * 64 + (⟨(y 1 : ℕ) % 64, by omega⟩ : Fin 64), by dsimp; omega⟩ := by blk_ext
  refine (congrArg _ e).trans ((y_at m c _ _ _ _).trans ?_)
  unfold yV
  refine congrArg₂ (· + ·) (Fin.sum_fin_congr fun k => ?_) ?_
  · refine congrArg₂ (· * ·) rfl ?_
    show m _ _ = m _ _
    blk_ext
  · exact congrArg (m ((c.tc : Thread nD τ).loc main_arg3)) e.symm

/-- The reference runs to its end, keeps its arguments, and leaves every semaphore counter at zero. -/
theorem frame_ref : Cert.quiescent_Reference2Ideal := by
  intro m g _
  exact (θ_run Cert.Reference2Ideal.defs _ _).mono
    (fun r h => ⟨fun c => (h c).2.2, sem_eq_zero_of_no_sems (by decide) r.2⟩) (Cert.Reference2Ideal.Value.run m g)

end Cert.Reference2Ideal.R2Fwd

end
-- ==== Proof.R2Fwd.lean ====
/- The state recurrence (`r2_fwd`): the eight points walk the blocks of eight chunks and carry the state in a scratch; the
   reference scans the 64 chunks. -/
module

public import proofs.«01_k».proof.Proof.Gen.Kernel2Ideal.Value
public import proofs.«01_k».proof.Proof.R2FwdRef
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.R2Fwd

open Cert.Kernel2Ideal Cert.Kernel2Ideal.Gen

variable (m : (ℓ : Loc nD τ sig) → Buf (Elt Ideal) ℓ)

/-! Within a point. -/

/-- A 64×64 tile of a 512×512 block: chunk `j`'s tokens, head `h`'s channels. -/
def tile (B : Vec Ideal S512x512 .f32) (j h : Fin 8) : Vec Ideal S64x64 .f32 :=
  View.ld B (Rect.unit (s := S512x512) ![64 * (j : ℕ), 64 * (h : ℕ)] S64x64.size (by
    intro a; fin_cases a <;> dsimp <;> omega))

/-- A chunk's eight matrices of a block of eight chunks. -/
def slab (B : Vec Ideal S8x8x64x64 .f32) (j : Fin 8) : Vec Ideal S1x8x64x64 .f32 :=
  View.ld B (Rect.unit (s := S8x8x64x64) ![(j : ℕ), 0, 0, 0] S1x8x64x64.size (by
    intro a; fin_cases a <;> dsimp <;> omega))

/-- An entry of a tile. -/
theorem tile_at (B : Vec Ideal S512x512 .f32) (j h : Fin 8) (t i : Fin 64) :
    tile B j h (ix2 t i) = B (ix2 ⟨64 * j + t, by omega⟩ ⟨64 * h + i, by omega⟩) := by
  pointwise [tile]
  blk_ext

/-- An entry of a chunk's matrices. -/
theorem slab_at (B : Vec Ideal S8x8x64x64 .f32) (j h : Fin 8) (t i : Fin 64) :
    slab B j (ix4 0 h t i) = B (ix4 j h t i) := by
  pointwise [slab]
  blk_ext

/-- A chunk's step of the state. -/
theorem pay22_at (D : FVec Ideal S8x64x64 .f32) (a g : Vec Ideal S1x8x64x64 .f32) (h : Fin 8) (i l : Fin 64) :
    k0_pay22 D a g (ix3 h i l) = (∑ k : Fin 64, D (ix3 h i k) * a (ix4 0 h k l)) + g (ix4 0 h i l) := by
  pointwise [k0_pay22]

/-- What a chunk's queries read of the state. -/
theorem pay4_at (D : Vec Ideal S8x64x64 .f32) (q0 q1 q2 q3 q4 q5 q6 q7 : Vec Ideal S64x64 .f32) (h : Fin 8) (t i : Fin 64) :
    k0_pay4 D q0 q1 q2 q3 q4 q5 q6 q7 (ix3 h t i)
      = ∑ k : Fin 64, (![q0, q1, q2, q3, q4, q5, q6, q7] : Fin 8 → Vec Ideal S64x64 .f32) h (ix2 t k) * D (ix3 h i k) := by
  fin_cases h
  all_goals pointwise [k0_pay4]

/-- A chunk's output: what its queries read, and its own term. -/
theorem pay5_at (U : FVec Ideal S8x64x64 .f32) (q0 q1 q2 q3 q4 q5 q6 q7 : Vec Ideal S64x64 .f32) (h : Fin 8) (t i : Fin 64) :
    k0_pay5 U q0 q1 q2 q3 q4 q5 q6 q7 (ix2 t ⟨64 * h + i, by omega⟩)
      = U (ix3 h t i) + (![q0, q1, q2, q3, q4, q5, q6, q7] : Fin 8 → Vec Ideal S64x64 .f32) h (ix2 t i) := by
  fin_cases h
  all_goals (pointwise [k0_pay5]; try blk_point [])
  all_goals first | (exfalso; omega) | blk_ext

/-- The eight tiles of a chunk, by head. -/
theorem pick (B : Vec Ideal S512x512 .f32) (j h : Fin 8) :
    (![tile B j 0, tile B j 1, tile B j 2, tile B j 3, tile B j 4, tile B j 5, tile B j 6, tile B j 7] : Fin 8 → Vec Ideal S64x64 .f32) h = tile B j h := by
  fin_cases h <;> rfl

/-- The state after `n` of the point's chunks. -/
def st (A G : Vec Ideal S8x8x64x64 .f32) (D : FVec Ideal S8x64x64 .f32) : ℕ → FVec Ideal S8x64x64 .f32
  | 0 => D
  | n + 1 => k0_pay22 (st A G D n) (slab A ⟨n % 8, Nat.mod_lt _ (by decide)⟩) (slab G ⟨n % 8, Nat.mod_lt _ (by decide)⟩)

/-- What a point writes of the states. -/
def stOut (A G : Vec Ideal S8x8x64x64 .f32) (D : FVec Ideal S8x64x64 .f32) : Vec Ideal S8x8x64x64 .f32 :=
  fun y => st A G D (y 0 : ℕ) (ix3 (y 1) (y 2) (y 3))

/-- What a point writes of the outputs. -/
def yOut (A G : Vec Ideal S8x8x64x64 .f32) (Q Y : Vec Ideal S512x512 .f32) (D : FVec Ideal S8x64x64 .f32) : Vec Ideal S512x512 .f32 :=
  fun y => (∑ k : Fin 64, Q (ix2 (y 0) ⟨64 * ((y 1 : ℕ) / 64) + k, by have := (y 1).isLt; dsimp at this; omega⟩)
    * st A G D ((y 0 : ℕ) / 64) (ix3 ⟨(y 1 : ℕ) / 64, by have := (y 1).isLt; dsimp at this; omega⟩ ⟨(y 1 : ℕ) % 64, by omega⟩ k)) + Y y

/-- A chunk's state, at an entry of the block. -/
theorem st_tile (A G : Vec Ideal S8x8x64x64 .f32) (D : FVec Ideal S8x64x64 .f32) (n : ℕ)
    (y : S8x8x64x64.Idx) (x : S1x8x64x64.Idx) (h0 : (y 0 : ℕ) = n) (h1 : (y 1 : ℕ) = x 1) (h2 : (y 2 : ℕ) = x 2) (h3 : (y 3 : ℕ) = x 3) :
    k0_pay3 (F := Ideal) (st A G D n) x = stOut A G D y := by
  unfold stOut
  rw [h0]
  generalize st A G D n = E
  pointwise [k0_pay3]
  blk_ext

/-- A chunk's outputs, at an entry of the block. -/
theorem y_tile (A G : Vec Ideal S8x8x64x64 .f32) (Q Y : Vec Ideal S512x512 .f32) (D : FVec Ideal S8x64x64 .f32) (j : Fin 8)
    (y : S512x512.Idx) (x : S64x512.Idx) (h0 : (y 0 : ℕ) = 64 * j + x 0) (h1 : (y 1 : ℕ) = x 1) :
    k0_pay5 (k0_pay4 (st A G D j) (tile Q j 0) (tile Q j 1) (tile Q j 2) (tile Q j 3) (tile Q j 4) (tile Q j 5) (tile Q j 6) (tile Q j 7))
        (tile Y j 0) (tile Y j 1) (tile Y j 2) (tile Y j 3) (tile Y j 4) (tile Y j 5) (tile Y j 6) (tile Y j 7) x
      = yOut A G Q Y D y := by
  have hx0 := (x 0).isLt
  have hx1 := (x 1).isLt
  dsimp at hx0 hx1
  have e : x = ix2 ⟨x 0, hx0⟩ ⟨64 * (⟨(x 1 : ℕ) / 64, by omega⟩ : Fin 8) + (⟨(x 1 : ℕ) % 64, by omega⟩ : Fin 64), by dsimp; omega⟩ := by
    blk_ext
  have ej : (y 0 : ℕ) / 64 = j := by omega
  unfold yOut
  rw [ej]
  generalize st A G D j = E
  rw [e, pay5_at, pay4_at, pick, pick]
  refine congrArg₂ (· + ·) (Fin.sum_fin_congr fun k => ?_) ?_
  · rw [tile_at]
    refine congrArg₂ (· * ·) ?_ ?_
    · blk_ext
    · blk_ext
  · rw [tile_at]
    blk_ext

/-- The last chunk's step, as the kernel prints it. -/
theorem pay1_at (D : FVec Ideal S8x64x64 .f32) (a g : Vec Ideal S1x8x64x64 .f32) (h : Fin 8) (i l : Fin 64) :
    k0_pay1 (k0_pay39 D a) g (ix3 h i l) = (∑ k : Fin 64, D (ix3 h i k) * a (ix4 0 h k l)) + g (ix4 0 h i l) := by
  pointwise [k0_pay1, k0_pay39]

/-- It is the step. -/
theorem last_at (A G : Vec Ideal S8x8x64x64 .f32) (D : FVec Ideal S8x64x64 .f32) (h : Fin 8) (i l : Fin 64) :
    k0_pay1 (k0_pay39 (st A G D 7) (slab A 7)) (slab G 7) (ix3 h i l) = st A G D 8 (ix3 h i l) :=
  (pay1_at _ _ _ h i l).trans (pay22_at _ _ _ h i l).symm

/-- The states that a point writes, at the first point. -/
theorem stp_A (c : Dev nD) (t : Fin cfg0.N) (h0 : t.val % 8 = 0) (y) :
    (outsAt0 m c t.val t.isLt).2.1 y = stOut (iblk m c 0 t) (iblk m c 1 t) k0_pay2 y := by
  rw [outsAt0_A m c t h0]
  frame_out
  canon_tiles x h
  case piece0 => exact st_tile _ _ _ 7 y x (by omega) h1 h2 h3
  case piece1 => exact st_tile _ _ _ 6 y x (by omega) h1 h2 h3
  case piece2 => exact st_tile _ _ _ 5 y x (by omega) h1 h2 h3
  case piece3 => exact st_tile _ _ _ 4 y x (by omega) h1 h2 h3
  case piece4 => exact st_tile _ _ _ 3 y x (by omega) h1 h2 h3
  case piece5 => exact st_tile _ _ _ 2 y x (by omega) h1 h2 h3
  case piece6 => exact st_tile _ _ _ 1 y x (by omega) h1 h2 h3
  case piece7 => exact st_tile _ _ _ 0 y x (by omega) h1 h2 h3

/-- The outputs that a point writes, at the first point. -/
theorem yp_A (c : Dev nD) (t : Fin cfg0.N) (h0 : t.val % 8 = 0) (y) :
    (outsAt0 m c t.val t.isLt).1 y = yOut (iblk m c 0 t) (iblk m c 1 t) (iblk m c 2 t) (iblk m c 3 t) k0_pay2 y := by
  rw [outsAt0_A m c t h0]
  frame_out
  canon_tiles x h
  case piece0 => exact y_tile _ _ _ _ _ 7 y x (by dsimp; omega) h1
  case piece1 => exact y_tile _ _ _ _ _ 6 y x (by dsimp; omega) h1
  case piece2 => exact y_tile _ _ _ _ _ 5 y x (by dsimp; omega) h1
  case piece3 => exact y_tile _ _ _ _ _ 4 y x (by dsimp; omega) h1
  case piece4 => exact y_tile _ _ _ _ _ 3 y x (by dsimp; omega) h1
  case piece5 => exact y_tile _ _ _ _ _ 2 y x (by dsimp; omega) h1
  case piece6 => exact y_tile _ _ _ _ _ 1 y x (by dsimp; omega) h1
  case piece7 => exact y_tile _ _ _ _ _ 0 y x (by dsimp; omega) h1

/-- The state that a point leaves in the scratch, at the first point. -/
theorem scr_A (c : Dev nD) (t : Fin cfg0.N) (h0 : t.val % 8 = 0) (h : Fin 8) (i l : Fin 64) :
    (outsAt0 m c t.val t.isLt).2.2 (ix3 h i l) = st (iblk m c 0 t) (iblk m c 1 t) k0_pay2 8 (ix3 h i l) := by
  rw [outsAt0_A m c t h0]
  frame_out
  exact last_at _ _ _ h i l

/-- The states that a point writes, at a later point. -/
theorem stp_B (c : Dev nD) (t : Fin cfg0.N) (h0 : ¬t.val % 8 = 0) (y) :
    (outsAt0 m c t.val t.isLt).2.1 y = stOut (iblk m c 0 t) (iblk m c 1 t) (outsAt0 m c (t.val - 1) (Nat.lt_of_le_of_lt (Nat.sub_le _ _) t.isLt)).2.2 y := by
  rw [outsAt0_B m c t h0]
  frame_out
  rw [(Memref.isWhole_whole cc0_scratch0).read_unread]
  canon_tiles x h
  case piece0 => exact st_tile _ _ _ 7 y x (by omega) h1 h2 h3
  case piece1 => exact st_tile _ _ _ 6 y x (by omega) h1 h2 h3
  case piece2 => exact st_tile _ _ _ 5 y x (by omega) h1 h2 h3
  case piece3 => exact st_tile _ _ _ 4 y x (by omega) h1 h2 h3
  case piece4 => exact st_tile _ _ _ 3 y x (by omega) h1 h2 h3
  case piece5 => exact st_tile _ _ _ 2 y x (by omega) h1 h2 h3
  case piece6 => exact st_tile _ _ _ 1 y x (by omega) h1 h2 h3
  case piece7 => exact st_tile _ _ _ 0 y x (by omega) h1 h2 h3

/-- The outputs that a point writes, at a later point. -/
theorem yp_B (c : Dev nD) (t : Fin cfg0.N) (h0 : ¬t.val % 8 = 0) (y) :
    (outsAt0 m c t.val t.isLt).1 y = yOut (iblk m c 0 t) (iblk m c 1 t) (iblk m c 2 t) (iblk m c 3 t) (outsAt0 m c (t.val - 1) (Nat.lt_of_le_of_lt (Nat.sub_le _ _) t.isLt)).2.2 y := by
  rw [outsAt0_B m c t h0]
  frame_out
  rw [(Memref.isWhole_whole cc0_scratch0).read_unread]
  canon_tiles x h
  case piece0 => exact y_tile _ _ _ _ _ 7 y x (by dsimp; omega) h1
  case piece1 => exact y_tile _ _ _ _ _ 6 y x (by dsimp; omega) h1
  case piece2 => exact y_tile _ _ _ _ _ 5 y x (by dsimp; omega) h1
  case piece3 => exact y_tile _ _ _ _ _ 4 y x (by dsimp; omega) h1
  case piece4 => exact y_tile _ _ _ _ _ 3 y x (by dsimp; omega) h1
  case piece5 => exact y_tile _ _ _ _ _ 2 y x (by dsimp; omega) h1
  case piece6 => exact y_tile _ _ _ _ _ 1 y x (by dsimp; omega) h1
  case piece7 => exact y_tile _ _ _ _ _ 0 y x (by dsimp; omega) h1

/-- The state that a point leaves in the scratch, at a later point. -/
theorem scr_B (c : Dev nD) (t : Fin cfg0.N) (h0 : ¬t.val % 8 = 0) (h : Fin 8) (i l : Fin 64) :
    (outsAt0 m c t.val t.isLt).2.2 (ix3 h i l) = st (iblk m c 0 t) (iblk m c 1 t) (outsAt0 m c (t.val - 1) (Nat.lt_of_le_of_lt (Nat.sub_le _ _) t.isLt)).2.2 8 (ix3 h i l) := by
  rw [outsAt0_B m c t h0]
  frame_out
  rw [(Memref.isWhole_whole cc0_scratch0).read_unread]
  exact last_at _ _ _ h i l

/-! Over the points. -/

/-- The windows' block indices. -/
theorem idx : ∀ t : Fin cfg0.N, win0_0.index t = ![t.val, 0, 0, 0] ∧ win0_1.index t = ![t.val, 0, 0, 0]
    ∧ win0_2.index t = ![t.val, 0] ∧ win0_3.index t = ![t.val, 0] ∧ win0_4.index t = ![t.val, 0]
    ∧ win0_5.index t = ![t.val, 0, 0, 0] :=
  (by decide +kernel : ∀ t : Fin grid0.N, _)

open Cert.Reference2Ideal.R2Fwd (St stV yV)

/-- The state over the kernel's argument arrays. -/
abbrev Sk (c : Dev nD) (n : ℕ) : Fin 8 → Fin 64 → Fin 64 → EReal :=
  St (fun e h i j => m ((c.tc : Thread nD τ).loc main_arg0) (ix4 e h i j)) (fun e h i j => m ((c.tc : Thread nD τ).loc main_arg1) (ix4 e h i j)) n

/-- A chunk's transition at point `t`. -/
theorem a_at (c : Dev nD) (t : Fin cfg0.N) (n : ℕ) (hn : n < 8) (p : ℕ) (hp : p = 8 * t.val + n) (h : Fin 8) (k l : Fin 64) :
    (iblk m c 0 t : Vec Ideal S8x8x64x64 .f32) (ix4 ⟨n % 8, Nat.mod_lt _ (by decide)⟩ h k l)
      = m ((c.tc : Thread nD τ).loc main_arg0) (ix4 ⟨p % 64, Nat.mod_lt _ (by decide)⟩ h k l) := by
  have ht : t.val < 8 := lt_of_lt_of_eq t.isLt N_0
  blk_point [iblk, V, idx t]

/-- A chunk's term at point `t`. -/
theorem g_at (c : Dev nD) (t : Fin cfg0.N) (n : ℕ) (hn : n < 8) (p : ℕ) (hp : p = 8 * t.val + n) (h : Fin 8) (k l : Fin 64) :
    (iblk m c 1 t : Vec Ideal S8x8x64x64 .f32) (ix4 ⟨n % 8, Nat.mod_lt _ (by decide)⟩ h k l)
      = m ((c.tc : Thread nD τ).loc main_arg1) (ix4 ⟨p % 64, Nat.mod_lt _ (by decide)⟩ h k l) := by
  have ht : t.val < 8 := lt_of_lt_of_eq t.isLt N_0
  blk_point [iblk, V, idx t]

/-- Within a point, the state follows the recurrence. -/
theorem st_eq (c : Dev nD) (t : Fin cfg0.N) (D : FVec Ideal S8x64x64 .f32)
    (hD : ∀ h i k, D (ix3 h i k) = Sk m c (8 * t.val) h i k) (n : ℕ) (hn : n ≤ 8) (h : Fin 8) (i k : Fin 64) :
    st (iblk m c 0 t) (iblk m c 1 t) D n (ix3 h i k) = Sk m c (8 * t.val + n) h i k := by
  induction n generalizing h i k with
  | zero => exact hD h i k
  | succ n ih =>
    obtain ⟨p, hp⟩ : ∃ p, p = 8 * t.val + n := ⟨_, rfl⟩
    rw [← hp] at ih
    refine (pay22_at _ _ _ h i k).trans (Eq.trans ?_ (congrArg (fun N => Sk m c N h i k) (by omega : p + 1 = 8 * t.val + (n + 1))))
    refine congrArg₂ (· + ·) (Fin.sum_fin_congr fun x => congrArg₂ (· * ·) (ih (by omega) h i x) ?_) ?_
    · exact (slab_at _ _ h x k).trans (a_at m c t n (by omega) p hp h x k)
    · exact (slab_at _ _ h i k).trans (g_at m c t n (by omega) p hp h i k)

/-- The state starts at zero. -/
theorem zero_at (h : Fin 8) (i k : Fin 64) : (k0_pay2 (F := Ideal)) (ix3 h i k) = 0 := by
  pointwise [k0_pay2]

/-- The carried scratch after a point: the state after all chunks so far. -/
theorem scr_eq (c : Dev nD) : ∀ (n : ℕ) (hn : n < cfg0.N) (h : Fin 8) (i k : Fin 64),
    (outsAt0 m c n hn).2.2 (ix3 h i k) = Sk m c (8 * (n + 1)) h i k := by
  intro n
  induction n with
  | zero =>
    intro hn h i k
    exact (scr_A m c ⟨0, hn⟩ (by rfl) h i k).trans (st_eq m c ⟨0, hn⟩ _ (fun h i k => zero_at h i k) 8 (by omega) h i k)
  | succ n ih =>
    intro hn h i k
    have ht : n + 1 < 8 := lt_of_lt_of_eq hn N_0
    exact (scr_B m c ⟨n + 1, hn⟩ (by dsimp; omega) h i k).trans
      (st_eq m c ⟨n + 1, hn⟩ _ (fun h i k => ih _ h i k) 8 (by omega) h i k)

/-- What each point writes, over the state at its start. -/
theorem outs_eq (c : Dev nD) (t : Fin cfg0.N) : ∃ D : FVec Ideal S8x64x64 .f32,
    (∀ h i k, D (ix3 h i k) = Sk m c (8 * t.val) h i k)
    ∧ (∀ y, (outsAt0 m c t.val t.isLt).1 y = yOut (iblk m c 0 t) (iblk m c 1 t) (iblk m c 2 t) (iblk m c 3 t) D y)
    ∧ (∀ y, (outsAt0 m c t.val t.isLt).2.1 y = stOut (iblk m c 0 t) (iblk m c 1 t) D y) := by
  have ht : t.val < 8 := lt_of_lt_of_eq t.isLt N_0
  by_cases h0 : t.val % 8 = 0
  · refine ⟨k0_pay2, fun h i k => ?_, yp_A m c t h0, stp_A m c t h0⟩
    have : t.val = 0 := by omega
    rw [this]
    exact zero_at h i k
  · refine ⟨_, fun h i k => ?_, yp_B m c t h0, stp_B m c t h0⟩
    refine (scr_eq m c (t.val - 1) _ h i k).trans (congrArg (fun N => Sk m c N h i k) ?_)
    omega

/-- Two entries of the state at equal places. -/
theorem Sk_congr (c : Dev nD) {n n' : ℕ} {h h' : Fin 8} {i i' k k' : Fin 64} (hn : n = n') (hh : (h : ℕ) = h') (hi : (i : ℕ) = i')
    (hk : (k : ℕ) = k') : Sk m c n h i k = Sk m c n' h' i' k' := by
  rw [hn, Fin.ext hh, Fin.ext hi, Fin.ext hk]

/-- The states after the run are the reference's. -/
theorem final_st (c : Dev nD) : (dats m 0 c).arrAt 5 (cfgs 0).N
    = stV (m ((c.tc : Thread nD τ).loc main_arg0)) (m ((c.tc : Thread nD τ).loc main_arg1)) := by
  refine (dats m 0 c).arrAt_eq_of_covers 5 _ (by decide +kernel) fun t hf y => ?_
  have ht : t.val < 8 := lt_of_lt_of_eq t.isLt N_0
  obtain ⟨D, hD, -, h⟩ := outs_eq m c t
  have hy : (y 0 : ℕ) < 8 := (y 0).isLt
  blk_simp
  rw [after0_5, h]
  refine (st_eq m c t D hD _ (by omega) (y 1) (y 2) (y 3)).trans ?_
  refine Sk_congr m c ?_ ?_ ?_ ?_
  all_goals (blk_simp [idx t] <;> try omega)

/-- The outputs after the run are the reference's. -/
theorem final_y (c : Dev nD) : (dats m 0 c).arrAt 4 (cfgs 0).N
    = yV (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  have ht : t.val < 8 := lt_of_lt_of_eq t.isLt N_0
  obtain ⟨D, hD, h, -⟩ := outs_eq m c t
  have hy : (y 0 : ℕ) < 512 := (y 0).isLt
  have hy1 : (y 1 : ℕ) < 512 := (y 1).isLt
  blk_simp
  rw [after0_4, h]
  refine congrArg₂ (· + ·) (Fin.sum_fin_congr fun k => (mul_comm _ _).trans (congrArg₂ (· * ·) ?_ ?_)) ?_
  · refine (st_eq m c t D hD _ (by omega) _ _ k).trans ?_
    refine Sk_congr m c ?_ ?_ ?_ rfl
    all_goals (blk_simp [idx t] <;> try omega)
  · blk_point [iblk, V, idx t]
  · blk_point [iblk, V, idx t]

/-- The kernel and the reference give equal results on the same arguments. -/
theorem algebraic : Cert.algebraic_Kernel2Ideal_Reference2Ideal := by
  pair_intro
  · run_from Cert.Kernel2Ideal.Gen.run_main m g
  · refine (θ_run Cert.Reference2Ideal.defs _ _).mono (fun r h c => ?_) (Cert.Reference2Ideal.Value.run m' g')
    have hc := h c
    rw [Cert.Reference2Ideal.R2Fwd.y_eq, Cert.Reference2Ideal.R2Fwd.st_eq] at hc
    obtain ⟨a0, a1, a2, a3⟩ := hagree c
    refine ⟨hc.1.trans (Eq.trans ?_ (final_y m c).symm), hc.2.1.trans (Eq.trans ?_ (final_st m c).symm), hc.2.2⟩
    · exact (congrArg₂ (fun x y => yV x y _ _) a0 a1).trans (congrArg₂ (yV _ _) a2 a3)
    · exact congrArg₂ stV a0 a1

/-- The reference's frame. -/
theorem frame_ref : Cert.quiescent_Reference2Ideal := Cert.Reference2Ideal.R2Fwd.frame_ref

end Cert.Kernel2Ideal.R2Fwd

end
-- ==== Proof.WdGrad.lean ====
/- The gradient of the second feed-forward block's output weight (`ffn2_wd_grad`): the kernel sums four products over
   blocks of 1024 tokens in a scratch, the reference contracts all 4096 tokens at once. -/
module

public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.WdGrad

open Cert.Kernel3Ideal Cert.Kernel3Ideal.Gen

variable (m : (ℓ : Loc nD τ sig) → Buf (Elt Ideal) ℓ)

/-- The first block's payload: the product of the two blocks, contracted over the tokens. -/
theorem hpay1 (x0 : Vec Ideal S1x1024x704 .bf16) (x1 : Vec Ideal S1x1024x1024 .bf16) (j : S704x1024.Idx) :
    k0_pay1 x0 x1 j = ∑ k : Fin 1024, x0 (ix3 0 k (j 0)) * x1 (ix3 0 k (j 1)) := by
  pointwise [k0_pay1]

/-- A later block's payload: what the scratch held plus the product. -/
theorem hpay2 (acc : Vec Ideal S704x1024 .f32) (x0 : Vec Ideal S1x1024x704 .bf16) (x1 : Vec Ideal S1x1024x1024 .bf16)
    (j : S704x1024.Idx) :
    k0_pay2 acc x0 x1 j = acc j + ∑ k : Fin 1024, x0 (ix3 0 k (j 0)) * x1 (ix3 0 k (j 1)) := by
  pointwise [k0_pay2]

/-- The stored block is the scratch. -/
theorem hpay3 (acc : Vec Ideal S704x1024 .f32) (j : S1x704x1024.Idx) :
    k0_pay3 acc j = acc (ix2 (j 1) (j 2)) := by
  pointwise [k0_pay3]

/-- The windows' block indices. -/
theorem idx : ∀ t : Fin cfg0.N, win0_0.index t = ![t.val / 4, t.val % 4, 0] ∧ win0_1.index t = ![0, t.val % 4, 0]
    ∧ win0_2.index t = ![t.val / 4, 0, 0] :=
  (by decide +kernel : ∀ t : Fin grid0.N, _)

/-- At the last point of a run the output block is the scratch, rounded. -/
theorem out_eq (c : Dev nD) (t : Fin cfg0.N) (h2 : t.val % 4 = 3) (y : S1x704x1024.Idx) :
    (outsAt0 m c t.val t.isLt).1 y = (outsAt0 m c t.val t.isLt).2 (ix2 (y 1) (y 2)) := by
  rw [outsAt0_C m c t (by omega) (by omega) h2]
  frame_out
  rw [hpay3]

/-- The reference at an index: one contraction over all tokens. -/
theorem ref_at (x0 : FVec Ideal Cert.Reference3Ideal.S4x4096x704 .bf16) (x1 : FVec Ideal Cert.Reference3Ideal.S4096x1024 .bf16)
    (i : Cert.Reference3Ideal.S4x704x1024.Idx) :
    Cert.Reference3Ideal.Read.val_main_v9 (F := Ideal) x0 x1 i
      = ∑ l : Fin 4096, x0 (ix3 (i 0) l (i 1)) * x1 (ix2 l (i 2)) := by
  pointwise [Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v2,
    Cert.Reference3Ideal.Read.val_main_v1, Cert.Reference3Ideal.Read.val_main_v0]
  exact Finset.sum_congr rfl fun l _ => mul_comm (x1 _) (x0 _)

/-- The result array after the run is the reference's. -/
theorem final (c : Dev nD) : (dats m 0 c).arrAt 2 (cfgs 0).N
    = Cert.Reference3Ideal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0) _
    (fun t h j => by rw [outsAt0_A m c t h (by omega) (by omega)]; frame_out; rw [hpay1, zero_add])
    (fun t h j => by
      by_cases h2 : t.val % 4 = 3
      · rw [outsAt0_C m c t h (by omega) h2]; frame_out; rw [hpay2, (Memref.isWhole_whole cc0_scratch0).read_unread]
      · rw [outsAt0_B m c t h (by omega) h2]; frame_out; rw [hpay2, (Memref.isWhole_whole cc0_scratch0).read_unread])
    t ((flush0_2 t).mp hf) _, zero_add]
  refine Eq.trans ?_ (ref_at _ _ _).symm
  refine Fin.sum_mul_add_congr fun s k hl => ?_
  blk_point [iblk, V, idx t, idx ⟨_, Pipeline.run_point_lt_of_flush t ((flush0_2 t).mp hf) s⟩]

/-- The kernel and the reference leave the same gradient. -/
theorem algebraic : Cert.algebraic_Kernel3Ideal_Reference3Ideal := by
  pair_intro
  · run_from Cert.Kernel3Ideal.Gen.run_main m g
  · run_from Cert.Reference3Ideal.Value.run m' g'
    exact (final m c).symm

/-- The reference runs to its end, keeps its arguments, and leaves every semaphore counter at zero. -/
theorem frame_ref : Cert.quiescent_Reference3Ideal := by
  intro m g _
  exact (θ_run Cert.Reference3Ideal.defs _ _).mono
    (fun r h => ⟨fun c => (h c).2, sem_eq_zero_of_no_sems (by decide) r.2⟩) (Cert.Reference3Ideal.Value.run m g)

end Cert.Kernel3Ideal.WdGrad

end
-- ==== Proof.WgGrad.lean ====
/- The gradient of the second feed-forward block's gate and input weight (`ffn2_wg_grad`): the kernel sums four products over
   blocks of 1024 tokens in a scratch, the reference contracts all 4096 tokens at once. -/
module

public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.WgGrad

open Cert.Kernel4Ideal Cert.Kernel4Ideal.Gen

variable (m : (ℓ : Loc nD τ sig) → Buf (Elt Ideal) ℓ)

/-- The first block's payload: the product of the two blocks, contracted over the tokens. -/
theorem hpay1 (x0 : Vec Ideal S1x1024x704 .bf16) (x1 : Vec Ideal S1x1024x1024 .bf16) (j : S704x1024.Idx) :
    k0_pay1 x0 x1 j = ∑ k : Fin 1024, x0 (ix3 0 k (j 0)) * x1 (ix3 0 k (j 1)) := by
  pointwise [k0_pay1]

/-- A later block's payload: what the scratch held plus the product. -/
theorem hpay2 (acc : Vec Ideal S704x1024 .f32) (x0 : Vec Ideal S1x1024x704 .bf16) (x1 : Vec Ideal S1x1024x1024 .bf16)
    (j : S704x1024.Idx) :
    k0_pay2 acc x0 x1 j = acc j + ∑ k : Fin 1024, x0 (ix3 0 k (j 0)) * x1 (ix3 0 k (j 1)) := by
  pointwise [k0_pay2]

/-- The stored block is the scratch. -/
theorem hpay3 (acc : Vec Ideal S704x1024 .f32) (j : S1x704x1024.Idx) :
    k0_pay3 acc j = acc (ix2 (j 1) (j 2)) := by
  pointwise [k0_pay3]

/-- The windows' block indices. -/
theorem idx : ∀ t : Fin cfg0.N, win0_0.index t = ![t.val / 4, t.val % 4, 0] ∧ win0_1.index t = ![0, t.val % 4, 0]
    ∧ win0_2.index t = ![t.val / 4, 0, 0] :=
  (by decide +kernel : ∀ t : Fin grid0.N, _)

/-- At the last point of a run the output block is the scratch, rounded. -/
theorem out_eq (c : Dev nD) (t : Fin cfg0.N) (h2 : t.val % 4 = 3) (y : S1x704x1024.Idx) :
    (outsAt0 m c t.val t.isLt).1 y = (outsAt0 m c t.val t.isLt).2 (ix2 (y 1) (y 2)) := by
  rw [outsAt0_C m c t (by omega) (by omega) h2]
  frame_out
  rw [hpay3]

/-- The reference at an index: one contraction over all tokens. -/
theorem ref_at (x0 : FVec Ideal Cert.Reference4Ideal.S4x2x4096x704 .bf16) (x1 : FVec Ideal Cert.Reference4Ideal.S4096x1024 .bf16)
    (i : Cert.Reference4Ideal.S8x704x1024.Idx) :
    Cert.Reference4Ideal.Read.val_main_v11 (F := Ideal) x0 x1 i
      = ∑ l : Fin 4096, x0 (ix4 ⟨(i 0).val / 2, by have : (i 0).val < 8 := (i 0).isLt; omega⟩
          ⟨(i 0).val % 2, Nat.mod_lt _ (by decide)⟩ l (i 1)) * x1 (ix2 l (i 2)) := by
  pointwise [Cert.Reference4Ideal.Read.val_main_v11, Cert.Reference4Ideal.Read.val_main_v10, Cert.Reference4Ideal.Read.val_main_v9, Cert.Reference4Ideal.Read.val_main_v8, Cert.Reference4Ideal.Read.val_main_v7, Cert.Reference4Ideal.Read.val_main_v6, Cert.Reference4Ideal.Read.val_main_v3, Cert.Reference4Ideal.Read.val_main_v2, Cert.Reference4Ideal.Read.val_main_v1, Cert.Reference4Ideal.Read.val_main_v0]
  exact Finset.sum_congr rfl fun l _ => congrArg₂ (· * ·) (by blk_ext) (by blk_ext)

/-- The result array after the run is the reference's. -/
theorem final (c : Dev nD) : (dats m 0 c).arrAt 2 (cfgs 0).N
    = Cert.Reference4Ideal.Read.val_main_v11 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0) _
    (fun t h j => by rw [outsAt0_A m c t h (by omega) (by omega)]; frame_out; rw [hpay1, zero_add])
    (fun t h j => by
      by_cases h2 : t.val % 4 = 3
      · rw [outsAt0_C m c t h (by omega) h2]; frame_out; rw [hpay2, (Memref.isWhole_whole cc0_scratch0).read_unread]
      · rw [outsAt0_B m c t h (by omega) h2]; frame_out; rw [hpay2, (Memref.isWhole_whole cc0_scratch0).read_unread])
    t ((flush0_2 t).mp hf) _, zero_add]
  refine Eq.trans ?_ (ref_at _ _ _).symm
  refine Fin.sum_mul_add_congr fun s k hl => ?_
  blk_point [iblk, V, idx t, idx ⟨_, Pipeline.run_point_lt_of_flush t ((flush0_2 t).mp hf) s⟩]

/-- The kernel and the reference leave the same gradient. -/
theorem algebraic : Cert.algebraic_Kernel4Ideal_Reference4Ideal := by
  pair_intro
  · run_from Cert.Kernel4Ideal.Gen.run_main m g
  · run_from Cert.Reference4Ideal.Value.run m' g'
    exact (final m c).symm

/-- The reference runs to its end, keeps its arguments, and leaves every semaphore counter at zero. -/
theorem frame_ref : Cert.quiescent_Reference4Ideal := by
  intro m g _
  exact (θ_run Cert.Reference4Ideal.defs _ _).mono
    (fun r h => ⟨fun c => (h c).2, sem_eq_zero_of_no_sems (by decide) r.2⟩) (Cert.Reference4Ideal.Value.run m g)

end Cert.Kernel4Ideal.WgGrad

end
-- ==== Proof.Norm.lean ====
/- The row operations that the forward calls share, over one row of 1024 numbers: the division by the root mean square with
   its scale, and its product with a column of a weight. -/
module

public import proofs.«01_k».proof.Defs
public import Idealize.ShloMosaic.Lib.Pipeline.ValueKit
public import Idealize.ShloMosaic.Lib.Claim

@[expose] public section

noncomputable section

open Idealize.ShloMosaic

namespace Cert.Norm

/-- A row divided by its root mean square and scaled, entry `k`. -/
def xnE (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- Equal rows and scales have equal normed rows. -/
theorem xnE_congr {x x' g g' : Fin 1024 → EReal} (k : Fin 1024) (hx : ∀ j, x j = x' j) (hg : ∀ j, g j = g' j) :
    xnE x g k = xnE x' g' k := by
  rw [funext hx, funext hg]

/-- The normed row times a column of the weight. -/
def guE (x g w : Fin 1024 → EReal) : EReal := ∑ k : Fin 1024, xnE x g k * w k

/-- Equal rows, scales and columns have equal products. -/
theorem guE_congr {x x' g g' w w' : Fin 1024 → EReal} (hx : ∀ j, x j = x' j) (hg : ∀ j, g j = g' j) (hw : ∀ j, w j = w' j) :
    guE x g w = guE x' g' w' := by
  rw [funext hx, funext hg, funext hw]

/-- The product of a row and a column. -/
def dotE {n : ℕ} (a b : Fin n → EReal) : EReal := ∑ l : Fin n, a l * b l

/-- Equal rows and columns have equal products. -/
theorem dotE_congr {n : ℕ} {a a' b b' : Fin n → EReal} (ha : ∀ l, a l = a' l) (hb : ∀ l, b l = b' l) : dotE a b = dotE a' b' := by
  rw [funext ha, funext hb]

/-- A product does not depend on the order of its factors. -/
theorem dotE_comm {n : ℕ} (a b : Fin n → EReal) : dotE a b = dotE b a :=
  Finset.sum_congr rfl fun l _ => mul_comm (a l) (b l)

/-- The sum of two entries. -/
def addE (a b : EReal) : EReal := a + b

/-- A product over 4096 tokens, block by block. -/
theorem dotE_blocks (a b : Fin 4096 → EReal) : dotE a b
    = addE (addE (addE (dotE (fun r : Fin 1024 => a ⟨0 * 1024 + r.val, by omega⟩) (fun r => b ⟨0 * 1024 + r.val, by omega⟩))
        (dotE (fun r : Fin 1024 => a ⟨1 * 1024 + r.val, by omega⟩) (fun r => b ⟨1 * 1024 + r.val, by omega⟩)))
        (dotE (fun r : Fin 1024 => a ⟨2 * 1024 + r.val, by omega⟩) (fun r => b ⟨2 * 1024 + r.val, by omega⟩)))
        (dotE (fun r : Fin 1024 => a ⟨3 * 1024 + r.val, by omega⟩) (fun r => b ⟨3 * 1024 + r.val, by omega⟩)) := by
  have h := Fin.sum_mul_add_fin 4 1024 (fun l : Fin 4096 => a l * b l)
  rw [Fin.sum_univ_four] at h
  exact h.symm

/-- Equal entries have equal sums. -/
theorem addE_congr {a a' b b' : EReal} (ha : a = a') (hb : b = b') : addE a b = addE a' b' := by
  rw [ha, hb]

/-- The residual plus the normed row, entry `k`. -/
def resE (x : EReal) (f g : Fin 1024 → EReal) (k : Fin 1024) : EReal := x + xnE f g k

/-- Equal residuals, rows and scales have equal sums. -/
theorem resE_congr {x x' : EReal} {f f' g g' : Fin 1024 → EReal} (k : Fin 1024) (hx : x = x') (hf : ∀ j, f j = f' j)
    (hg : ∀ j, g j = g' j) : resE x f g k = resE x' f' g' k := by
  rw [hx, funext hf, funext hg]

end Cert.Norm

end
-- ==== Proof.FfnIn.lean ====
/- The forward call of the second feed-forward block's first half (`ffn2_in_fwd`): row norm, gate and up products and the
   gated activation, tile by tile; the reference computes them on whole arrays. -/
module

public import proofs.«01_k».proof.Proof.Gen.Kernel5Ideal.Value
public import proofs.«01_k».proof.Proof.Gen.Reference5Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.FfnIn

open Cert.Kernel5Ideal Cert.Kernel5Ideal.Gen Cert.Norm

variable (m : (ℓ : Loc nD τ sig) → Buf (Elt Ideal) ℓ)

/-- The gated activation. -/
def hE (a b : EReal) : EReal := a * Ideal.div 1 (1 + Ideal.exp (-a)) * b

/-! The reference, entry by entry. -/

section
open Cert.Reference5Ideal Cert.Reference5Ideal.Read

/-- The reference's normed row, entry by entry. -/
theorem ref_xn (x0 : FVec Ideal Cert.Reference5Ideal.S4096x1024 .f32) (x1 : FVec Ideal Cert.Reference5Ideal.S1x1024 .f32)
    (r : Fin 4096) (k : Fin 1024) :
    val_main_v11 (F := Ideal) x0 x1 (ix2 r k) = xnE (fun j => x0 (ix2 r j)) (fun j => x1 (ix2 0 j)) k := by
  unfold xnE
  pointwise [val_main_v11, val_main_v10, val_main_v9, val_main_v8, val_main_v7, val_main_v6, val_main_v5, val_main_v4, val_main_v3, val_main_v2, val_main_v1, val_main_v0, val_main_cst, val_main_cst_0, val_main_cst_1]

/-- The reference's first result: the normed rows. -/
theorem ref_xnb (x0 : FVec Ideal Cert.Reference5Ideal.S4096x1024 .f32) (x1 : FVec Ideal Cert.Reference5Ideal.S1x1024 .f32)
    (i : Cert.Reference5Ideal.S4096x1024.Idx) :
    val_main_v20 (F := Ideal) x0 x1 i = xnE (fun j => x0 (ix2 (i 0) j)) (fun j => x1 (ix2 0 j)) (i 1) := by
  refine Eq.trans ?_ (ref_xn x0 x1 (i 0) (i 1))
  pointwise [val_main_v20]
  blk_ext

/-- The reference's product of a normed row with a column of the weight. -/
theorem ref_gu (x0 : FVec Ideal Cert.Reference5Ideal.S4096x1024 .f32) (x1 : FVec Ideal Cert.Reference5Ideal.S1x1024 .f32)
    (x2 : FVec Ideal Cert.Reference5Ideal.S1024x5632 .bf16) (r : Fin 4096) (f : Fin 5632) :
    val_main_v13 (F := Ideal) x0 x1 x2 (ix2 r f)
      = guE (fun j => x0 (ix2 r j)) (fun j => x1 (ix2 0 j)) (fun k => x2 (ix2 k f)) := by
  have h := ref_xn x0 x1 r
  unfold guE
  simp only [← h]
  pointwise [val_main_v13, val_main_v12]

/-- The reference's second result: the gate and the up products, in chunks of 704 columns. -/
theorem ref_gub (x0 : FVec Ideal Cert.Reference5Ideal.S4096x1024 .f32) (x1 : FVec Ideal Cert.Reference5Ideal.S1x1024 .f32)
    (x2 : FVec Ideal Cert.Reference5Ideal.S1024x5632 .bf16) (i : Cert.Reference5Ideal.S4x2x4096x704.Idx)
    (f : Fin 5632) (hf : (f : ℕ) = 2816 * (i 1 : ℕ) + 704 * (i 0 : ℕ) + (i 3 : ℕ)) :
    val_main_v23 (F := Ideal) x0 x1 x2 i
      = guE (fun j => x0 (ix2 (i 2) j)) (fun j => x1 (ix2 0 j)) (fun k => x2 (ix2 k f)) := by
  refine Eq.trans ?_ (ref_gu x0 x1 x2 (i 2) f)
  pointwise [val_main_v23, val_main_v22, val_main_v21]
  blk_ext

/-- The reference's third result: the gated activation of a column's two products, in chunks. -/
theorem ref_h (x0 : FVec Ideal Cert.Reference5Ideal.S4096x1024 .f32) (x1 : FVec Ideal Cert.Reference5Ideal.S1x1024 .f32)
    (x2 : FVec Ideal Cert.Reference5Ideal.S1024x5632 .bf16) (i : Cert.Reference5Ideal.S4x4096x704.Idx)
    (f f' : Fin 5632) (hf : (f : ℕ) = 704 * (i 0 : ℕ) + (i 2 : ℕ)) (hf' : (f' : ℕ) = 2816 + (704 * (i 0 : ℕ) + (i 2 : ℕ))) :
    val_main_v24 (F := Ideal) x0 x1 x2 i
      = hE (guE (fun j => x0 (ix2 (i 1) j)) (fun j => x1 (ix2 0 j)) (fun k => x2 (ix2 k f)))
          (guE (fun j => x0 (ix2 (i 1) j)) (fun j => x1 (ix2 0 j)) (fun k => x2 (ix2 k f'))) := by
  rw [← ref_gu x0 x1 x2 (i 1) f, ← ref_gu x0 x1 x2 (i 1) f']
  unfold hE
  have e : val_main_v24 (F := Ideal) x0 x1 x2 i = val_main_v17 (F := Ideal) x0 x1 x2 (ix2 (i 1) ⟨(i 0 : ℕ) * 704 + (i 2 : ℕ), by
      have := (i 0).isLt; have := (i 2).isLt; dsimp at *; omega⟩) := by
    pointwise [val_main_v24, val_main_v19, val_main_v18]
  rw [e]
  generalize hG : val_main_v13 (F := Ideal) x0 x1 x2 = G
  pointwise [val_main_v17, val_main_v16, val_main_v15, val_main_v14, val_main_call0_v5, val_main_call0_v4, val_main_call0_v3,
    val_main_call0_v2, val_main_call0_v1, val_main_call0_v0, val_main_call0_cst, val_main_call0_cst_0]
  rw [hG]
  blk_point []

end

/-! The kernel's tiles, at variable blocks. -/

/-- Rows `256 s …` of the block of tokens. -/
def rows (X : Vec Ideal S1024x1024 .f32) (s : Fin 4) : Vec Ideal S256x1024 .f32 :=
  View.ld X (Rect.unit (s := S1024x1024) ![256 * (s : ℕ), 0] S256x1024.size (by intro a; fin_cases a <;> dsimp <;> omega))

/-- The gate's or the up product's weight. -/
def wt (W : Vec Ideal S1x2x704x1024 .bf16) (q : Fin 2) : Vec Ideal S1x1x704x1024 .bf16 :=
  View.ld W (Rect.unit (s := S1x2x704x1024) ![0, (q : ℕ), 0, 0] S1x1x704x1024.size (by intro a; fin_cases a <;> dsimp <;> omega))

/-- The normed rows of a tile. -/
def xnT (X : Vec Ideal S1024x1024 .f32) (g : Vec Ideal S1x1024 .f32) (s : Fin 4) : FVec Ideal S256x1024 .bf16 :=
  k0_pay6 (rows X s) g

/-- The kernel's norm of a tile's rows, entry by entry. -/
theorem pay6_at (X : Vec Ideal S256x1024 .f32) (g : Vec Ideal S1x1024 .f32) (r : Fin 256) (k : Fin 1024) :
    k0_pay6 X g (ix2 r k) = xnE (fun j => X (ix2 r j)) (fun j => g (ix2 0 j)) k := by
  unfold xnE
  pointwise [k0_pay6]

/-- An entry of a tile's rows in the block of tokens. -/
theorem rows_at (X : Vec Ideal S1024x1024 .f32) (s : Fin 4) (r : Fin 256) (k : Fin 1024) :
    rows X s (ix2 r k) = X (ix2 ⟨256 * s + r, by omega⟩ k) := by
  pointwise [rows]
  blk_ext

/-- An entry of the gate's or of the up product's weight in the block of weights. -/
theorem wt_at (W : Vec Ideal S1x2x704x1024 .bf16) (q : Fin 2) (f : Fin 704) (k : Fin 1024) :
    wt W q (ix4 0 0 f k) = W (ix4 0 q f k) := by
  pointwise [wt]
  blk_ext

/-- A tile's normed row is the norm of the block's row. -/
theorem xnT_at (X : Vec Ideal S1024x1024 .f32) (g : Vec Ideal S1x1024 .f32) (s : Fin 4) (r : Fin 256) (k : Fin 1024) :
    xnT X g s (ix2 r k) = xnE (fun j => X (ix2 ⟨256 * s + r, by omega⟩ j)) (fun j => g (ix2 0 j)) k := by
  unfold xnT
  rw [pay6_at]
  exact congrArg (fun a => xnE a _ k) (funext fun j => rows_at X s r j)

/-- The product that the kernel stores, as a sum over the width. -/
theorem pay3_at (U : FVec Ideal S256x1024 .bf16) (W : Vec Ideal S1x1x704x1024 .bf16) (x : S1x1x256x704.Idx) :
    k0_pay3 U W x = ∑ k : Fin 1024, U (ix2 (x 2) k) * W (ix4 0 0 (x 3) k) := by
  pointwise [k0_pay3, k0_pay1]

/-- The activation that the kernel stores: the gated activation of two sums over the width. -/
theorem pay5_at (U : FVec Ideal S256x1024 .bf16) (W W' : Vec Ideal S1x1x704x1024 .bf16) (x : S1x256x704.Idx) :
    k0_pay5 U W W' x = hE (∑ k : Fin 1024, U (ix2 (x 1) k) * W (ix4 0 0 (x 2) k)) (∑ k : Fin 1024, U (ix2 (x 1) k) * W' (ix4 0 0 (x 2) k)) := by
  unfold hE
  pointwise [k0_pay5, k0_pay1, k0_pay2]
  rfl

/-- The sum over the width at a tile's rows is the product of the block's normed row with the weight's row. -/
theorem gu_at (X : Vec Ideal S1024x1024 .f32) (g : Vec Ideal S1x1024 .f32) (W : Vec Ideal S1x2x704x1024 .bf16) (s : Fin 4) (q : Fin 2)
    (r : Fin 256) (f : Fin 704) :
    (∑ k : Fin 1024, xnT X g s (ix2 r k) * wt W q (ix4 0 0 f k) : EReal)
      = guE (fun j => X (ix2 ⟨256 * s + r, by omega⟩ j)) (fun j => g (ix2 0 j)) (fun k => W (ix4 0 q f k)) := by
  unfold guE
  refine Fin.sum_fin_congr fun k => ?_
  rw [xnT_at, wt_at]

/-- A stored tile of normed rows, read at the position where it lies in the block. -/
theorem xn_tile (X : Vec Ideal S1024x1024 .f32) (g : Vec Ideal S1x1024 .f32) (s : Fin 4) (y : S1024x1024.Idx) (x : S256x1024.Idx)
    (h0 : (y 0 : ℕ) = 256 * s + x 0) (h1 : (y 1 : ℕ) = x 1) :
    xnT X g s x = xnE (fun j => X (ix2 (y 0) j)) (fun j => g (ix2 0 j)) (y 1) := by
  have e : x = ix2 (x 0) (x 1) := by blk_ext
  refine (congrArg _ e).trans ((xnT_at X g s (x 0) (x 1)).trans ?_)
  have e0 : (⟨256 * s + (x 0 : ℕ), by have := (x 0).isLt; dsimp at this; omega⟩ : Fin 1024) = y 0 := Fin.ext h0.symm
  have e1 : (x 1 : Fin 1024) = y 1 := Fin.ext h1.symm
  rw [← e0, ← e1]

/-- A stored tile of a product, read at the position where it lies in the block. -/
theorem gu_tile (X : Vec Ideal S1024x1024 .f32) (g : Vec Ideal S1x1024 .f32) (W : Vec Ideal S1x2x704x1024 .bf16) (s : Fin 4) (q : Fin 2)
    (y : S1x2x1024x704.Idx) (x : S1x1x256x704.Idx) (h1 : (y 1 : ℕ) = q) (h2 : (y 2 : ℕ) = 256 * s + x 2) (h3 : (y 3 : ℕ) = x 3) :
    k0_pay3 (xnT X g s) (wt W q) x
      = guE (fun j => X (ix2 (y 2) j)) (fun j => g (ix2 0 j)) (fun k => W (ix4 0 (y 1) (y 3) k)) := by
  refine (pay3_at _ _ x).trans ((gu_at X g W s q (x 2) (x 3)).trans ?_)
  have e1 : q = y 1 := Fin.ext h1.symm
  have e2 : (⟨256 * s + (x 2 : ℕ), by have := (x 2).isLt; dsimp at this; omega⟩ : Fin 1024) = y 2 := Fin.ext h2.symm
  have e3 : (x 3 : Fin 704) = y 3 := Fin.ext h3.symm
  rw [← e1, ← e2, ← e3]

/-- A stored tile of the activation, read at the position where it lies in the block. -/
theorem h_tile (X : Vec Ideal S1024x1024 .f32) (g : Vec Ideal S1x1024 .f32) (W : Vec Ideal S1x2x704x1024 .bf16) (s : Fin 4)
    (y : S1x1024x704.Idx) (x : S1x256x704.Idx) (h1 : (y 1 : ℕ) = 256 * s + x 1) (h2 : (y 2 : ℕ) = x 2) :
    k0_pay5 (xnT X g s) (wt W 0) (wt W 1) x
      = hE (guE (fun j => X (ix2 (y 1) j)) (fun j => g (ix2 0 j)) (fun k => W (ix4 0 0 (y 2) k)))
          (guE (fun j => X (ix2 (y 1) j)) (fun j => g (ix2 0 j)) (fun k => W (ix4 0 1 (y 2) k))) := by
  refine (pay5_at _ _ _ x).trans ((congrArg₂ hE (gu_at X g W s 0 (x 1) (x 2)) (gu_at X g W s 1 (x 1) (x 2))).trans ?_)
  have e1 : (⟨256 * s + (x 1 : ℕ), by have := (x 1).isLt; dsimp at this; omega⟩ : Fin 1024) = y 1 := Fin.ext h1.symm
  have e2 : (x 2 : Fin 704) = y 2 := Fin.ext h2.symm
  rw [← e1, ← e2]

/-! What a point writes. -/

/-- The block of normed rows that a point writes. -/
theorem out3 (X : Vec Ideal S1024x1024 .f32) (g : Vec Ideal S1x1024 .f32) (W : Vec Ideal S1x2x704x1024 .bf16) (y : S1024x1024.Idx) :
    out0_3 X g W y = xnE (fun j => X (ix2 (y 0) j)) (fun j => g (ix2 0 j)) (y 1) := by
  unfold_out out0_3
  frame_out
  canon_tiles x h
  case piece0 => exact xn_tile X g 3 y x (by dsimp; omega) h1
  case piece1 => exact xn_tile X g 2 y x (by dsimp; omega) h1
  case piece2 => exact xn_tile X g 1 y x (by dsimp; omega) h1
  case piece3 => exact xn_tile X g 0 y x (by dsimp; omega) h1

/-- The block of the two products that a point writes. -/
theorem out4 (X : Vec Ideal S1024x1024 .f32) (g : Vec Ideal S1x1024 .f32) (W : Vec Ideal S1x2x704x1024 .bf16) (y : S1x2x1024x704.Idx) :
    out0_4 X g W y = guE (fun j => X (ix2 (y 2) j)) (fun j => g (ix2 0 j)) (fun k => W (ix4 0 (y 1) (y 3) k)) := by
  unfold_out out0_4
  frame_out
  canon_tiles x h
  case piece0 => exact gu_tile X g W 3 1 y x (by dsimp; omega) (by dsimp; omega) h3
  case piece1 => exact gu_tile X g W 3 0 y x (by dsimp; omega) (by dsimp; omega) h3
  case piece2 => exact gu_tile X g W 2 1 y x (by dsimp; omega) (by dsimp; omega) h3
  case piece3 => exact gu_tile X g W 2 0 y x (by dsimp; omega) (by dsimp; omega) h3
  case piece4 => exact gu_tile X g W 1 1 y x (by dsimp; omega) (by dsimp; omega) h3
  case piece5 => exact gu_tile X g W 1 0 y x (by dsimp; omega) (by dsimp; omega) h3
  case piece6 => exact gu_tile X g W 0 1 y x (by dsimp; omega) (by dsimp; omega) h3
  case piece7 => exact gu_tile X g W 0 0 y x (by dsimp; omega) (by dsimp; omega) h3

/-- The block of the activation that a point writes. -/
theorem out5 (X : Vec Ideal S1024x1024 .f32) (g : Vec Ideal S1x1024 .f32) (W : Vec Ideal S1x2x704x1024 .bf16) (y : S1x1024x704.Idx) :
    out0_5 X g W y = hE (guE (fun j => X (ix2 (y 1) j)) (fun j => g (ix2 0 j)) (fun k => W (ix4 0 0 (y 2) k)))
      (guE (fun j => X (ix2 (y 1) j)) (fun j => g (ix2 0 j)) (fun k => W (ix4 0 1 (y 2) k))) := by
  unfold_out out0_5
  frame_out
  canon_tiles x h
  case piece0 => exact h_tile X g W 3 y x (by dsimp; omega) h2
  case piece1 => exact h_tile X g W 2 y x (by dsimp; omega) h2
  case piece2 => exact h_tile X g W 1 y x (by dsimp; omega) h2
  case piece3 => exact h_tile X g W 0 y x (by dsimp; omega) h2

/-- The windows' block indices. -/
theorem idx : ∀ t : Fin cfg0.N, win0_0.index t = ![t.val / 4, 0] ∧ win0_1.index t = ![0, 0] ∧ win0_2.index t = ![t.val % 4, 0, 0, 0]
    ∧ win0_3.index t = ![t.val / 4, 0] ∧ win0_4.index t = ![t.val % 4, 0, t.val / 4, 0] ∧ win0_5.index t = ![t.val % 4, t.val / 4, 0] :=
  (by decide +kernel : ∀ t : Fin grid0.N, _)

open Cert.Reference5Ideal.Read (val_main_v20 val_main_v23 val_main_v24)

/-- The block of tokens at point `t`. -/
theorem x_at (c : Dev nD) (t : Fin cfg0.N) (r : Fin 1024) (j : Fin 1024) (R : Fin 4096) (hR : (R : ℕ) = 1024 * (t.val / 4) + r) :
    (iblk m c 0 t : Vec Ideal S1024x1024 .f32) (ix2 r j) = m ((c.tc : Thread nD τ).loc main_arg0) (ix2 R j) := by
  blk_point [iblk, V, idx t]

/-- The scale's block at point `t`: the whole scale. -/
theorem g_at (c : Dev nD) (t : Fin cfg0.N) (j : Fin 1024) :
    (iblk m c 1 t : Vec Ideal S1x1024 .f32) (ix2 0 j) = m ((c.tc : Thread nD τ).loc main_arg1) (ix2 0 j) := by
  blk_point [iblk, V, idx t]

/-- The weight's block at point `t`: the chunk `t % 4` of both halves, transposed. -/
theorem w_at (c : Dev nD) (t : Fin cfg0.N) (q : Fin 2) (v : Fin 704) (k : Fin 1024) (f : Fin 5632)
    (hf : (f : ℕ) = 2816 * q + 704 * (t.val % 4) + v) :
    (iblk m c 2 t : Vec Ideal S1x2x704x1024 .bf16) (ix4 0 q v k) = m ((c.tc : Thread nD τ).loc main_arg2) (ix2 k f) := by
  blk_point [iblk, V, idx t]

/-- The product's entry at point `t`, from the point's blocks. -/
theorem gu_pt (c : Dev nD) (t : Fin cfg0.N) (r : Fin 1024) (R : Fin 4096) (hR : (R : ℕ) = 1024 * (t.val / 4) + r)
    (q : Fin 2) (v : Fin 704) (f : Fin 5632) (hf : (f : ℕ) = 2816 * q + 704 * (t.val % 4) + v) :
    guE (fun j => (iblk m c 0 t : Vec Ideal S1024x1024 .f32) (ix2 r j)) (fun j => (iblk m c 1 t : Vec Ideal S1x1024 .f32) (ix2 0 j))
        (fun k => (iblk m c 2 t : Vec Ideal S1x2x704x1024 .bf16) (ix4 0 q v k))
      = guE (fun j => m ((c.tc : Thread nD τ).loc main_arg0) (ix2 R j)) (fun j => m ((c.tc : Thread nD τ).loc main_arg1) (ix2 0 j))
          (fun k => m ((c.tc : Thread nD τ).loc main_arg2) (ix2 k f)) :=
  guE_congr (fun j => x_at m c t r j R hR) (fun j => g_at m c t j) (fun k => w_at m c t q v k f hf)

/-- The kernel's first result is the reference's: the normed rows. -/
theorem final_xn (c : Dev nD) : (dats m 0 c).arrAt 3 (cfgs 0).N
    = val_main_v20 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3, out3]
  refine Eq.trans ?_ (ref_xnb _ _ _).symm
  refine (congrArg₂ (fun a b => xnE a b (y 1)) (funext fun j => x_at m c t _ j _ ?_) (funext fun j => g_at m c t j)).trans
    (congrArg (xnE _ _) (Fin.ext ?_))
  · blk_simp [idx t] <;> omega
  · blk_simp [idx t]

set_option maxHeartbeats 1000000 in
theorem final_gu (c : Dev nD) : (dats m 0 c).arrAt 4 (cfgs 0).N
    = val_main_v23 (F := Ideal) (m ((c.tc : Thread nD τ).loc main_arg0)) (m ((c.tc : Thread nD τ).loc main_arg1))
        (m ((c.tc : Thread nD τ).loc main_arg2)) := by
  refine (dats m 0 c).arrAt_eq_of_covers 4 _ (by decide +kernel) fun t hf y => ?_
  have h1 : (y 1 : ℕ) < 2 := (y 1).isLt
  have h3 : (y 3 : ℕ) < 704 := (y 3).isLt
  blk_simp
  rw [after0_4, out4]
  refine Eq.trans ?_ (ref_gub _ _ _ _ ⟨2816 * (y 1 : ℕ) + 704 * (t.val % 4) + (y 3 : ℕ), by omega⟩ ?_).symm
  · refine gu_pt m c t _ _ ?_ _ _ _ ?_
    all_goals first | omega | (blk_simp [idx t] <;> try omega)
  · blk_simp [idx t] <;> try omega

set_option maxHeartbeats 1000000 in
theorem final_h (c : Dev nD) : (dats m 0 c).arrAt 5 (cfgs 0).N
    = val_main_v24 (F := Ideal) (m ((c.tc : Thread nD τ).loc main_arg0)) (m ((c.tc : Thread nD τ).loc main_arg1))
        (m ((c.tc : Thread nD τ).loc main_arg2)) := by
  refine (dats m 0 c).arrAt_eq_of_covers 5 _ (by decide +kernel) fun t hf y => ?_
  have h2 : (y 2 : ℕ) < 704 := (y 2).isLt
  blk_simp
  rw [after0_5, out5]
  refine Eq.trans ?_ (ref_h _ _ _ _ ⟨704 * (t.val % 4) + (y 2 : ℕ), by omega⟩ ⟨2816 + (704 * (t.val % 4) + (y 2 : ℕ)), by omega⟩ ?_ ?_).symm
  · refine congrArg₂ hE (gu_pt m c t _ _ ?_ 0 _ _ ?_) (gu_pt m c t _ _ ?_ 1 _ _ ?_)
    · blk_simp [idx t] <;> omega
    · change (704 * (t.val % 4) + (y 2 : ℕ)) = 2816 * 0 + 704 * (t.val % 4) + (y 2 : ℕ); omega
    · blk_simp [idx t] <;> omega
    · change (2816 + (704 * (t.val % 4) + (y 2 : ℕ))) = 2816 * 1 + 704 * (t.val % 4) + (y 2 : ℕ); omega
  · blk_simp [idx t] <;> try omega
  · blk_simp [idx t] <;> try omega

/-- The kernel and the reference give equal results on the same arguments. -/
theorem algebraic : Cert.algebraic_Kernel5Ideal_Reference5Ideal := by
  pair_intro
  · run_from Cert.Kernel5Ideal.Gen.run_main m g
  · run_from Cert.Reference5Ideal.Value.run m' g'
    · exact (final_xn m c).symm
    · exact (final_gu m c).symm
    · exact (final_h m c).symm

/-- The reference runs to its end, keeps its arguments, and leaves every semaphore counter at zero. -/
theorem frame_ref : Cert.quiescent_Reference5Ideal := by
  intro m g _
  exact (θ_run Cert.Reference5Ideal.defs _ _).mono
    (fun r h => ⟨fun c => (h c).2.2.2, sem_eq_zero_of_no_sems (by decide) r.2⟩) (Cert.Reference5Ideal.Value.run m g)

end Cert.Kernel5Ideal.FfnIn

end
-- ==== Proof.WoutGrad.lean ====
/- The gradient of the output projection (`wout_grad`): one product contracted over the tokens, block after block; the
   reference contracts over all tokens at once. -/
module

public import proofs.«01_k».proof.Proof.Gen.Kernel6Ideal.Value
public import proofs.«01_k».proof.Proof.Gen.Reference6Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.WoutGrad

open Cert.Kernel6Ideal Cert.Kernel6Ideal.Gen

variable (m : (ℓ : Loc nD τ sig) → Buf (Elt Ideal) ℓ)

/-- The first block's payload: the product of the two blocks, contracted over the tokens. -/
theorem hpay1 (x0 : Vec Ideal S1x1024x1024 .bf16) (x1 : Vec Ideal S1x1024x1024 .bf16) (j : S1024x1024.Idx) :
    k0_pay1 x0 x1 j = ∑ k : Fin 1024, x0 (ix3 0 k (j 0)) * x1 (ix3 0 k (j 1)) := by
  pointwise [k0_pay1]

/-- A later block's payload: what the scratch held plus the product. -/
theorem hpay2 (acc : Vec Ideal S1024x1024 .f32) (x0 : Vec Ideal S1x1024x1024 .bf16) (x1 : Vec Ideal S1x1024x1024 .bf16)
    (j : S1024x1024.Idx) :
    k0_pay2 acc x0 x1 j = acc j + ∑ k : Fin 1024, x0 (ix3 0 k (j 0)) * x1 (ix3 0 k (j 1)) := by
  pointwise [k0_pay2]

/-- The stored block is the scratch. -/
theorem hpay3 (acc : Vec Ideal S1024x1024 .f32) (j : S1x1024x1024.Idx) :
    k0_pay3 acc j = acc (ix2 (j 1) (j 2)) := by
  pointwise [k0_pay3]

/-- The windows' block indices. -/
theorem idx : ∀ t : Fin cfg0.N, win0_0.index t = ![0, t.val % 4, 0] ∧ win0_1.index t = ![0, t.val % 4, 0]
    ∧ win0_2.index t = ![0, 0, 0] :=
  (by decide +kernel : ∀ t : Fin grid0.N, _)

/-- At the last point of a run the output block is the scratch, rounded. -/
theorem out_eq (c : Dev nD) (t : Fin cfg0.N) (h2 : t.val % 4 = 3) (y : S1x1024x1024.Idx) :
    (outsAt0 m c t.val t.isLt).1 y = (outsAt0 m c t.val t.isLt).2 (ix2 (y 1) (y 2)) := by
  rw [outsAt0_C m c t (by omega) (by omega) h2]
  frame_out
  rw [hpay3]

/-- The reference at an index: one contraction over all tokens. -/
theorem ref_at (x0 : FVec Ideal Cert.Reference6Ideal.S4096x1024 .bf16) (x1 : FVec Ideal Cert.Reference6Ideal.S4096x1024 .bf16)
    (i : Cert.Reference6Ideal.S1x1024x1024.Idx) :
    Cert.Reference6Ideal.Read.val_main_v7 (F := Ideal) x0 x1 i
      = ∑ l : Fin 4096, x0 (ix2 l (i 1)) * x1 (ix2 l (i 2)) := by
  pointwise [Cert.Reference6Ideal.Read.val_main_v7,
    Cert.Reference6Ideal.Read.val_main_v6, Cert.Reference6Ideal.Read.val_main_v5, Cert.Reference6Ideal.Read.val_main_v4, Cert.Reference6Ideal.Read.val_main_v3,
    Cert.Reference6Ideal.Read.val_main_v0]
  exact Finset.sum_congr rfl fun l _ => mul_comm (x1 _) (x0 _)

/-- The result array after the run is the reference's. -/
theorem final (c : Dev nD) : (dats m 0 c).arrAt 2 (cfgs 0).N
    = Cert.Reference6Ideal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0) _
    (fun t h j => by have hN := lt_of_lt_of_eq t.isLt (show cfg0.N = 4 from N_0); rw [outsAt0_A m c t h (by omega) (by omega)]; frame_out; rw [hpay1, zero_add])
    (fun t h j => by
      by_cases h2 : t.val % 4 = 3
      · rw [outsAt0_C m c t h (by omega) h2]; frame_out; rw [hpay2, (Memref.isWhole_whole cc0_scratch0).read_unread]
      · rw [outsAt0_B m c t h (by omega) h2]; frame_out; rw [hpay2, (Memref.isWhole_whole cc0_scratch0).read_unread])
    t ((flush0_2 t).mp hf) _, zero_add]
  refine Eq.trans ?_ (ref_at _ _ _).symm
  refine Fin.sum_mul_add_congr fun s k hl => ?_
  blk_point [iblk, V, idx t, idx ⟨_, Pipeline.run_point_lt_of_flush t ((flush0_2 t).mp hf) s⟩]

/-- The kernel and the reference leave the same gradient. -/
theorem algebraic : Cert.algebraic_Kernel6Ideal_Reference6Ideal := by
  pair_intro
  · run_from Cert.Kernel6Ideal.Gen.run_main m g
  · run_from Cert.Reference6Ideal.Value.run m' g'
    exact (final m c).symm

/-- The reference runs to its end, keeps its arguments, and leaves every semaphore counter at zero. -/
theorem frame_ref : Cert.quiescent_Reference6Ideal := by
  intro m g _
  exact (θ_run Cert.Reference6Ideal.defs _ _).mono
    (fun r h => ⟨fun c => (h c).2, sem_eq_zero_of_no_sems (by decide) r.2⟩) (Cert.Reference6Ideal.Value.run m g)

end Cert.Kernel6Ideal.WoutGrad

end
-- ==== Proof.WinGrad.lean ====
/- The gradient of the input projection (`win_grad`): one product contracted over the tokens, block after block, half of
   the columns at a time; the reference contracts over all tokens at once. -/
module

public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.WinGrad

open Cert.Kernel7Ideal Cert.Kernel7Ideal.Gen

variable (m : (ℓ : Loc nD τ sig) → Buf (Elt Ideal) ℓ)

/-- The first block's payload: the product of the two blocks, contracted over the tokens. -/
theorem hpay1 (x0 : Vec Ideal S1x1024x2816 .bf16) (x1 : Vec Ideal S1x1024x512 .bf16) (j : S2816x512.Idx) :
    k0_pay1 x0 x1 j = ∑ k : Fin 1024, x0 (ix3 0 k (j 0)) * x1 (ix3 0 k (j 1)) := by
  pointwise [k0_pay1]

/-- A later block's payload: what the scratch held plus the product. -/
theorem hpay2 (acc : Vec Ideal S2816x512 .f32) (x0 : Vec Ideal S1x1024x2816 .bf16) (x1 : Vec Ideal S1x1024x512 .bf16)
    (j : S2816x512.Idx) :
    k0_pay2 acc x0 x1 j = acc j + ∑ k : Fin 1024, x0 (ix3 0 k (j 0)) * x1 (ix3 0 k (j 1)) := by
  pointwise [k0_pay2]

/-- The stored block is the scratch. -/
theorem hpay3 (acc : Vec Ideal S2816x512 .f32) (j : S1x2816x512.Idx) :
    k0_pay3 acc j = acc (ix2 (j 1) (j 2)) := by
  pointwise [k0_pay3]

/-- The windows' block indices. -/
theorem idx : ∀ t : Fin cfg0.N, win0_0.index t = ![0, t.val % 4, 0] ∧ win0_1.index t = ![0, t.val % 4, t.val / 4]
    ∧ win0_2.index t = ![0, 0, t.val / 4] :=
  (by decide +kernel : ∀ t : Fin grid0.N, _)

/-- At the last point of a run the output block is the scratch, rounded. -/
theorem out_eq (c : Dev nD) (t : Fin cfg0.N) (h2 : t.val % 4 = 3) (y : S1x2816x512.Idx) :
    (outsAt0 m c t.val t.isLt).1 y = (outsAt0 m c t.val t.isLt).2 (ix2 (y 1) (y 2)) := by
  rw [outsAt0_C m c t (by omega) (by omega) h2]
  frame_out
  rw [hpay3]

/-- The reference at an index: one contraction over all tokens. -/
theorem ref_at (x0 : FVec Ideal Cert.Reference7Ideal.S4096x2816 .bf16) (x1 : FVec Ideal Cert.Reference7Ideal.S4096x1024 .bf16)
    (i : Cert.Reference7Ideal.S1x2816x1024.Idx) :
    Cert.Reference7Ideal.Read.val_main_v8 (F := Ideal) x0 x1 i
      = ∑ l : Fin 4096, x0 (ix2 l (i 1)) * x1 (ix2 l (i 2)) := by
  pointwise [Cert.Reference7Ideal.Read.val_main_v8, Cert.Reference7Ideal.Read.val_main_v7,
    Cert.Reference7Ideal.Read.val_main_v6, Cert.Reference7Ideal.Read.val_main_v5, Cert.Reference7Ideal.Read.val_main_v4, Cert.Reference7Ideal.Read.val_main_v3,
    Cert.Reference7Ideal.Read.val_main_v0]

/-- The result array after the run is the reference's. -/
theorem final (c : Dev nD) : (dats m 0 c).arrAt 2 (cfgs 0).N
    = Cert.Reference7Ideal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0) _
    (fun t h j => by rw [outsAt0_A m c t h (by omega) (by omega)]; frame_out; rw [hpay1, zero_add])
    (fun t h j => by
      by_cases h2 : t.val % 4 = 3
      · rw [outsAt0_C m c t h (by omega) h2]; frame_out; rw [hpay2, (Memref.isWhole_whole cc0_scratch0).read_unread]
      · rw [outsAt0_B m c t h (by omega) h2]; frame_out; rw [hpay2, (Memref.isWhole_whole cc0_scratch0).read_unread])
    t ((flush0_2 t).mp hf) _, zero_add]
  refine Eq.trans ?_ (ref_at _ _ _).symm
  refine Fin.sum_mul_add_congr fun s k hl => ?_
  blk_point [iblk, V, idx t, idx ⟨_, Pipeline.run_point_lt_of_flush t ((flush0_2 t).mp hf) s⟩]

/-- The kernel and the reference leave the same gradient. -/
theorem algebraic : Cert.algebraic_Kernel7Ideal_Reference7Ideal := by
  pair_intro
  · run_from Cert.Kernel7Ideal.Gen.run_main m g
  · run_from Cert.Reference7Ideal.Value.run m' g'
    exact (final m c).symm

/-- The reference runs to its end, keeps its arguments, and leaves every semaphore counter at zero. -/
theorem frame_ref : Cert.quiescent_Reference7Ideal := by
  intro m g _
  exact (θ_run Cert.Reference7Ideal.defs _ _).mono
    (fun r h => ⟨fun c => (h c).2, sem_eq_zero_of_no_sems (by decide) r.2⟩) (Cert.Reference7Ideal.Value.run m g)

end Cert.Kernel7Ideal.WinGrad

end
-- ==== Proof.RmsGrad.lean ====
/- The gradient of the row norm over the reals, one row of 1024 numbers at a time: the kernels' form (the normed row's
   cotangent less its projection on the normed row) is the form that the derivative rules of product, mean and inverse
   square root give, whenever the row, the scale and the cotangent are finite. -/
module

public import proofs.«01_k».proof.Defs
public import Idealize.ShloMosaic.Lib.Pipeline.ValueKit
public import Idealize.ShloMosaic.Lib.Claim

@[expose] public section

noncomputable section

open Idealize.ShloMosaic

namespace Cert.Norm

/-- A finite extended real. -/
def IsReal (x : EReal) : Prop := ∃ r : ℝ, x = (r : EReal)

/-- A number whose magnitude is below the infinity is finite. -/
theorem fin_of_abs {x : EReal} (h : max x (-x) < ⊤) : IsReal x := by
  induction x with
  | bot => simp at h
  | top => simp at h
  | coe r => exact ⟨r, rfl⟩

/-- A product of finite numbers is finite. -/
theorem fin_mul {x y : EReal} (hx : IsReal x) (hy : IsReal y) : IsReal (x * y) := by
  obtain ⟨a, rfl⟩ := hx; obtain ⟨b, rfl⟩ := hy
  exact ⟨a * b, (EReal.coe_mul a b).symm⟩

/-- A sum of two finite numbers is finite. -/
theorem fin_add {x y : EReal} (hx : IsReal x) (hy : IsReal y) : IsReal (x + y) := by
  obtain ⟨a, rfl⟩ := hx; obtain ⟨b, rfl⟩ := hy
  exact ⟨a + b, (EReal.coe_add a b).symm⟩

/-- A sum of finitely many reals in the extended reals is the real sum. -/
theorem coe_sum {n : ℕ} (f : Fin n → ℝ) : ∑ j : Fin n, ((f j : ℝ) : EReal) = ((∑ j : Fin n, f j : ℝ) : EReal) := by
  classical
  refine Finset.induction_on (Finset.univ : Finset (Fin n)) (by simp) fun a s ha h => ?_
  rw [Finset.sum_insert ha, Finset.sum_insert ha, h, EReal.coe_add]

/-- A sum of finitely many finite numbers is finite. -/
theorem fin_sum {n : ℕ} {f : Fin n → EReal} (h : ∀ j, IsReal (f j)) : IsReal (∑ j : Fin n, f j) := by
  choose r hr using h
  exact ⟨∑ j, r j, by rw [← coe_sum]; exact Finset.sum_congr rfl fun j _ => hr j⟩

/-- The row length as a number. -/
theorem c1024 : Ideal.ofBits .f32 0x44800000#32 = ((1024 : ℝ) : EReal) := by
  simp [Ideal.ofBits, Ideal.ieee, -EReal.coe_mul]; norm_num

/-- The constant of the inverse square root's derivative. -/
theorem cneghalf : Ideal.ofBits .f32 0xBF000000#32 = ((-(1 / 2) : ℝ) : EReal) := by
  simp [Ideal.ofBits, Ideal.ieee, -EReal.coe_mul, -EReal.coe_neg]; norm_num

/-- The constant under the root is a positive real. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

/-- The inverse root mean square of a row. -/
def invE (x : Fin 1024 → EReal) : EReal :=
  Ideal.rsqrt (Ideal.div (∑ j : Fin 1024, x j * x j) (Ideal.ofBits .f32 0x44800000#32) + Ideal.ofBits .f32 0x358637BD#32)

/-- The normed row before its scale, entry `k`. -/
def nxE (x : Fin 1024 → EReal) (k : Fin 1024) : EReal := x k * invE x

/-- Equal rows have equal normed rows. -/
theorem nxE_congr {x x' : Fin 1024 → EReal} (k : Fin 1024) (hx : ∀ j, x j = x' j) : nxE x k = nxE x' k := by
  rw [funext hx]

/-- The mean square of a row with the constant under the root. -/
def msE (x : Fin 1024 → EReal) : EReal :=
  Ideal.div (∑ j : Fin 1024, x j * x j) (Ideal.ofBits .f32 0x44800000#32) + Ideal.ofBits .f32 0x358637BD#32

/-- The kernels' gradient of the norm with respect to the row, entry `k`. -/
def kdx (x g d : Fin 1024 → EReal) (k : Fin 1024) : EReal :=
  invE x * (d k * g k - x k * invE x * Ideal.div (∑ j : Fin 1024, d j * g j * (x j * invE x)) (Ideal.ofBits .f32 0x44800000#32))

/-- The derivative rules' share of the mean square. -/
def rdm (x g d : Fin 1024 → EReal) : EReal :=
  Ideal.div ((∑ j : Fin 1024, x j * (d j * g j)) * (Ideal.ofBits .f32 0xBF000000#32 * Ideal.div (invE x) (msE x))) (Ideal.ofBits .f32 0x44800000#32)

/-- The derivative rules' gradient with respect to the row, added to `r`, entry `k`. -/
def rdx (r : EReal) (x g d : Fin 1024 → EReal) (k : Fin 1024) : EReal :=
  r + d k * g k * invE x + x k * rdm x g d + rdm x g d * x k

/-- For a finite row, scale and cotangent the two forms of the gradient agree. -/
theorem kdx_eq (r : EReal) (x g d : Fin 1024 → EReal) (hx : ∀ j, IsReal (x j)) (hg : ∀ j, IsReal (g j)) (hd : ∀ j, IsReal (d j))
    (k : Fin 1024) : r + kdx x g d k = rdx r x g d k := by
  choose X hX using hx
  choose G hG using hg
  choose D hD using hd
  obtain ⟨e, he, hE⟩ := ceps
  obtain rfl := funext hX
  obtain rfl := funext hG
  obtain rfl := funext hD
  have h1024 : (1024 : ℝ) ≠ 0 := by norm_num
  have hss : 0 ≤ ∑ j : Fin 1024, X j * X j := Finset.sum_nonneg fun j _ => mul_self_nonneg _
  have hm : msE (fun j => (X j : EReal)) = (((∑ j : Fin 1024, X j * X j) * (1 / 1024) + e : ℝ) : EReal) := by
    unfold msE
    simp only [← EReal.coe_mul, coe_sum]
    rw [c1024, Ideal.div_coe h1024, hE, ← EReal.coe_mul, ← EReal.coe_add]
  obtain ⟨v, hv, hv0⟩ : ∃ v : ℝ, msE (fun j => (X j : EReal)) = (v : EReal) ∧ 0 < v :=
    ⟨_, hm, by positivity⟩
  have hi : invE (fun j => (X j : EReal)) = (((Real.sqrt v)⁻¹ : ℝ) : EReal) := by
    show Ideal.rsqrt (msE (fun j => (X j : EReal))) = _
    rw [hv, Ideal.rsqrt_coe, if_neg (not_lt.mpr hv0.le), if_neg hv0.ne']
  obtain ⟨s, hs, hs0, hsv⟩ : ∃ s : ℝ, Real.sqrt v = s ∧ 0 < s ∧ v = s * s :=
    ⟨_, rfl, Real.sqrt_pos.mpr hv0, (Real.mul_self_sqrt hv0.le).symm⟩
  rw [hs] at hi
  unfold rdx kdx rdm
  rw [hi, hv, cneghalf, c1024, Ideal.div_coe h1024, Ideal.div_coe h1024, Ideal.div_coe hv0.ne']
  simp only [← EReal.coe_mul, coe_sum, ← EReal.coe_sub]
  rw [add_assoc, add_assoc, ← EReal.coe_add, ← EReal.coe_add]
  congr 2
  have hsum : ∑ j : Fin 1024, D j * G j * (X j * s⁻¹) = (∑ j : Fin 1024, X j * (D j * G j)) * s⁻¹ := by
    rw [Finset.sum_mul]; exact Finset.sum_congr rfl fun j _ => by ring
  rw [hsum, hsv]
  field_simp
  ring

/-- Equal rows, scales and cotangents have equal gradients. -/
theorem kdx_congr {x x' g g' d d' : Fin 1024 → EReal} (k : Fin 1024) (hx : ∀ j, x j = x' j) (hg : ∀ j, g j = g' j)
    (hd : ∀ j, d j = d' j) : kdx x g d k = kdx x' g' d' k := by
  rw [funext hx, funext hg, funext hd]

/-- A number that compares below the infinity in magnitude is finite. -/
theorem real_of_cmp {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine fin_of_abs ?_
  by_contra hn
  simp [Ideal.cmp, hn] at h

end Cert.Norm

end
-- ==== Proof.FfnInGrad.lean ====
/- The gradient of the second feed-forward block's input half (`ffn2_in_bwd`): the cotangent of the normed row is summed over the
   weight's four blocks in a scratch; then the row's gradient is added to the residual's cotangent, and the scale's gradient is
   summed over the four blocks of tokens. The reference takes the derivative of the norm and the product. -/
module

public import proofs.«01_k».proof.Proof.Gen.Kernel8Ideal.Value
public import proofs.«01_k».proof.Proof.Gen.Reference8Ideal.Read
public import proofs.«01_k».proof.Proof.Gen.Pre_finite8
public import proofs.«01_k».proof.Proof.Norm
public import proofs.«01_k».proof.Proof.RmsGrad
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.FfnInGrad

open Cert.Kernel8Ideal Cert.Kernel8Ideal.Gen Cert.Norm

variable (m : (ℓ : Loc nD τ sig) → Buf (Elt Ideal) ℓ)

/-! The reference, entry by entry. -/

section
open Cert.Reference8Ideal Cert.Reference8Ideal.Read

/-- The reference's gradient of the row, over its cotangent of the normed row. -/
theorem ref_dx (x0 : FVec Ideal Cert.Reference8Ideal.S4x2x4096x704 .bf16) (x1 : FVec Ideal Cert.Reference8Ideal.S1024x5632 .bf16)
    (x2 : FVec Ideal Cert.Reference8Ideal.S4096x1024 .f32) (x3 : FVec Ideal Cert.Reference8Ideal.S1x1024 .f32)
    (x4 : FVec Ideal Cert.Reference8Ideal.S4096x1024 .f32) (r : Fin 4096) (k : Fin 1024) :
    val_main_v40 (F := Ideal) x0 x1 x2 x3 x4 (ix2 r k)
      = rdx (x4 (ix2 r k)) (fun j => x2 (ix2 r j)) (fun j => x3 (ix2 0 j)) (fun j => val_main_v20 (F := Ideal) x0 x1 (ix2 r j)) k := by
  unfold rdx rdm msE invE
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v14, val_main_v13,
    val_main_v12, val_main_v11, val_main_v10, val_main_v9, val_main_v8, val_main_v7, val_main_v6, val_main_v5, val_main_v4,
    val_main_cst, val_main_cst_0, val_main_cst_1, val_main_cst_2, val_main_cst_4, val_main_cst_5, val_main_cst_6]
  simp only [Finset.univ_unique, Finset.sum_singleton]

/-- The reference's gradient of the scale, over its cotangent of the normed row. -/
theorem ref_dg (x0 : FVec Ideal Cert.Reference8Ideal.S4x2x4096x704 .bf16) (x1 : FVec Ideal Cert.Reference8Ideal.S1024x5632 .bf16)
    (x2 : FVec Ideal Cert.Reference8Ideal.S4096x1024 .f32) (k : Fin 1024) :
    val_main_v23 (F := Ideal) x0 x1 x2 (ix2 0 k)
      = dotE (fun r : Fin 4096 => nxE (fun j => x2 (ix2 r j)) k) (fun r => val_main_v20 (F := Ideal) x0 x1 (ix2 r k)) := by
  unfold dotE nxE invE
  pointwise [val_main_v23, val_main_v22, val_main_v21, val_main_v16, val_main_v15,
    val_main_v11, val_main_v10, val_main_v9, val_main_v8, val_main_v7, val_main_v6, val_main_v5, val_main_v4,
    val_main_cst, val_main_cst_0, val_main_cst_1, val_main_cst_3]

/-- The reference's cotangent of the normed row. -/
theorem ref_d (x0 : FVec Ideal Cert.Reference8Ideal.S4x2x4096x704 .bf16) (x1 : FVec Ideal Cert.Reference8Ideal.S1024x5632 .bf16)
    (r : Fin 4096) (j : Fin 1024) :
    val_main_v20 (F := Ideal) x0 x1 (ix2 r j)
      = dotE (fun l : Fin 5632 => x0 (ix4 ⟨l.val / 704 % 4, by omega⟩ ⟨l.val / 2816, by omega⟩ r ⟨l.val % 704, by omega⟩)) (fun l => x1 (ix2 j l)) := by
  unfold dotE
  pointwise [val_main_v20, val_main_v3, val_main_v2, val_main_v1, val_main_v0]

end

/-- A sum over a half of the weight's columns, block by block. -/
theorem sum_half (f : Fin 2816 → EReal) : ∑ l, f l = ∑ e : Fin 4, ∑ k : Fin 704, f ⟨e.val * 704 + k.val, by omega⟩ :=
  (Fin.sum_mul_add_fin 4 704 f).symm

/-- A sum over the weight's columns, block by block: four blocks of the gate and of the up projection. -/
theorem sum_blocks (f : Fin 5632 → EReal) :
    ∑ l, f l = ∑ e : Fin 4, ((∑ k : Fin 704, f ⟨e.val * 704 + k.val, by omega⟩) + ∑ k : Fin 704, f ⟨2816 + (e.val * 704 + k.val), by omega⟩) := by
  rw [Finset.sum_add_distrib, ← sum_half (fun l => f ⟨l.val, by omega⟩), ← sum_half (fun l => f ⟨2816 + l.val, by omega⟩)]
  have h := Fin.sum_mul_add_fin 2 2816 f
  rw [Fin.sum_univ_two] at h
  rw [← h]
  refine congrArg₂ (fun a b : EReal => a + b) (Finset.sum_congr rfl fun l _ => congrArg f (Fin.ext ?_))
    (Finset.sum_congr rfl fun l _ => congrArg f (Fin.ext ?_))
  · show 0 * 2816 + l.val = l.val
    omega
  · show 1 * 2816 + l.val = 2816 + l.val
    omega

/-! What a point writes. -/

/-- One block's part of the cotangent of the normed row. -/
def part (A : Vec Ideal S1x2x1024x704 .bf16) (W : Vec Ideal S1x2x704x1024 .bf16) (j : S1024x1024.Idx) : EReal :=
  dotE (fun k : Fin 704 => A (ix4 0 0 (j 0) k)) (fun k => W (ix4 0 0 k (j 1)))
    + dotE (fun k : Fin 704 => A (ix4 0 1 (j 0) k)) (fun k => W (ix4 0 1 k (j 1)))

/-- The product payload at an entry. -/
theorem pay1_at (A : Vec Ideal S1x1x1024x704 .bf16) (W : Vec Ideal S1x1x704x1024 .bf16) (A' : Vec Ideal S1x1x1024x704 .bf16)
    (W' : Vec Ideal S1x1x704x1024 .bf16) (j : S1024x1024.Idx) :
    k0_pay1 A W A' W' j = dotE (fun k : Fin 704 => A (ix4 0 0 (j 0) k)) (fun k => W (ix4 0 0 k (j 1)))
      + dotE (fun k : Fin 704 => A' (ix4 0 0 (j 0) k)) (fun k => W' (ix4 0 0 k (j 1))) := by
  unfold dotE
  pointwise [k0_pay1]

/-- The inverse root mean square of a row. -/
theorem pay4_at (X : Vec Ideal S1024x1024 .f32) (r : Fin 1024) :
    k0_pay4 X (ix2 r 0) = invE (fun j => X (ix2 r j)) := by
  unfold invE
  pointwise [k0_pay4]

/-- The normed row. -/
theorem pay5_at (X : Vec Ideal S1024x1024 .f32) (r k : Fin 1024) :
    k0_pay5 X (ix2 r k) = X (ix2 r k) * invE (fun j => X (ix2 r j)) := by
  have h := pay4_at X r
  simp only [← h]
  pointwise [k0_pay5]

/-- A block's part of the scale's gradient. -/
theorem pay6_at (X d : Vec Ideal S1024x1024 .f32) (k : Fin 1024) :
    k0_pay6 X d (ix2 0 k) = dotE (fun r : Fin 1024 => d (ix2 r k)) (fun r => nxE (fun j => X (ix2 r j)) k) := by
  have h := fun r => pay5_at X r k
  unfold dotE nxE
  simp only [← h]
  pointwise [k0_pay6]

/-- The row's gradient added to the residual's cotangent. -/
theorem pay7_at (X : Vec Ideal S1024x1024 .f32) (g : Vec Ideal S1x1024 .f32) (d res : Vec Ideal S1024x1024 .f32) (r k : Fin 1024) :
    k0_pay7 X g d res (ix2 r k)
      = res (ix2 r k) + kdx (fun j => X (ix2 r j)) (fun j => g (ix2 0 j)) (fun j => d (ix2 r j)) k := by
  have h4 := pay4_at X r
  have h5 := fun j => pay5_at X r j
  unfold kdx
  simp only [← h5]
  simp only [← h4]
  pointwise [k0_pay7]

/-- The windows' block indices. -/
theorem idx : ∀ t : Fin cfg0.N, win0_0.index t = ![t.val % 4, 0, t.val / 4, 0] ∧ win0_1.index t = ![t.val % 4, 0, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The product payload over the two blocks. -/
theorem pay1_ld (A : Vec Ideal S1x2x1024x704 .bf16) (W : Vec Ideal S1x2x704x1024 .bf16) (j : S1024x1024.Idx) :
    k0_pay1 (View.ld A (Rect.unit ![0, 0, 0, 0] ![1, 1, 1024, 704] inb_S1x2x1024x704_S1x1x1024x704_0_0_0_0))
      (View.ld W (Rect.unit ![0, 0, 0, 0] ![1, 1, 704, 1024] inb_S1x2x704x1024_S1x1x704x1024_0_0_0_0))
      (View.ld A (Rect.unit ![0, 1, 0, 0] ![1, 1, 1024, 704] inb_S1x2x1024x704_S1x1x1024x704_0_1_0_0))
      (View.ld W (Rect.unit ![0, 1, 0, 0] ![1, 1, 704, 1024] inb_S1x2x704x1024_S1x1x704x1024_0_1_0_0)) j = part A W j := by
  refine (pay1_at _ _ _ _ j).trans ?_
  unfold part
  refine congrArg₂ (fun a b : EReal => a + b) (dotE_congr (fun k => ?_) fun k => ?_) (dotE_congr (fun k => ?_) fun k => ?_) <;>
    (pointwise []; blk_ext)

/-- A run's first payload is the product. -/
theorem pay2_at (A : Vec Ideal S1x1x1024x704 .bf16) (W : Vec Ideal S1x1x704x1024 .bf16) (A' : Vec Ideal S1x1x1024x704 .bf16)
    (W' : Vec Ideal S1x1x704x1024 .bf16) (j : S1024x1024.Idx) : k0_pay2 A W A' W' j = k0_pay1 A W A' W' j := by
  pointwise [k0_pay2]
  blk_ext

/-- A later payload adds the product to what the scratch held. -/
theorem pay3_at (A : Vec Ideal S1x1x1024x704 .bf16) (W : Vec Ideal S1x1x704x1024 .bf16) (A' : Vec Ideal S1x1x1024x704 .bf16)
    (W' : Vec Ideal S1x1x704x1024 .bf16) (acc : Vec Ideal S1024x1024 .f32) (j : S1024x1024.Idx) :
    k0_pay3 A W A' W' acc j = acc j + k0_pay1 A W A' W' j := by
  pointwise [k0_pay3]
  blk_ext

/-- A later block of tokens adds its part of the scale's gradient. -/
theorem pay8_at (X d : Vec Ideal S1024x1024 .f32) (acc : Vec Ideal S1x1024 .f32) (j : S1x1024.Idx) :
    k0_pay8 X d acc j = acc j + k0_pay6 X d j := by
  pointwise [k0_pay8]
  blk_ext

/-- The scratch after the last point of a run: the sum of the run's parts. -/
theorem scratch_eq (c : Dev nD) (t : Fin cfg0.N) (h : t.val % 4 = 3) (y : S1024x1024.Idx) :
    (outsAt0 m c t.val t.isLt).2.2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2.2) 4 (fun _ => 0)
    (fun t y => part (iblk m c 0 t) (iblk m c 1 t) y)
    (fun t h j => by
      rw [outsAt0_A m c t h (by omega) (by omega)]; frame_out; rw [pay2_at, pay1_ld, zero_add])
    (fun t h j => by
      have hN := lt_of_lt_of_eq t.isLt (show cfg0.N = 16 from N_0)
      by_cases h2 : t.val % 4 = 3
      · by_cases h3 : t.val < 4
        · rw [outsAt0_C m c t h (by omega) h2 h3 (by omega)]; frame_out
          rw [pay3_at, pay1_ld, (Memref.isWhole_whole cc0_scratch0).read_unread]
        · rw [outsAt0_D m c t h (by omega) h2 h3 (by omega)]; frame_out
          rw [pay3_at, pay1_ld, (Memref.isWhole_whole cc0_scratch0).read_unread]
      · rw [outsAt0_B m c t h (by omega) h2]; frame_out
        rw [pay3_at, pay1_ld, (Memref.isWhole_whole cc0_scratch0).read_unread])
    t h y, zero_add]

/-- At the last point of a run the output block is the residual's cotangent plus the row's gradient. -/
theorem out5_eq (c : Dev nD) (t : Fin cfg0.N) (h : t.val % 4 = 3) (r k : Fin 1024) :
    (outsAt0 m c t.val t.isLt).1 (ix2 r k)
      = addE ((iblk m c 4 t : Vec Ideal S1024x1024 .f32) (ix2 r k))
        (kdx (fun j => (iblk m c 2 t : Vec Ideal S1024x1024 .f32) (ix2 r j)) (fun j => (iblk m c 3 t : Vec Ideal S1x1024 .f32) (ix2 0 j))
          (fun j => (outsAt0 m c t.val t.isLt).2.2 (ix2 r j)) k) := by
  have hN := lt_of_lt_of_eq t.isLt (show cfg0.N = 16 from N_0)
  by_cases h3 : t.val < 4
  · rw [outsAt0_C m c t (by omega) (by omega) h h3 (by omega)]
    frame_out
    exact pay7_at _ _ _ _ r k
  · rw [outsAt0_D m c t (by omega) (by omega) h h3 (by omega)]
    frame_out
    exact pay7_at _ _ _ _ r k

/-- The scale's gradient is left alone before a run's last point. -/
theorem out6_keep (c : Dev nD) (t : Fin cfg0.N) (h0 : ¬ t.val % 4 = 0) (h : ¬ t.val % 4 = 3) :
    (outsAt0 m c t.val t.isLt).2.1 = (outsAt0 m c (t.val - 1) (Nat.lt_of_le_of_lt (Nat.sub_le _ _) t.isLt)).2.1 := by
  rw [outsAt0_B m c t h0 (by omega) h]
  rfl

/-- The scale's gradient is left alone at a later run's first point. -/
theorem out6_first (c : Dev nD) (t : Fin cfg0.N) (h0 : t.val % 4 = 0) (hz : ¬ t.val = 0) :
    (outsAt0 m c t.val t.isLt).2.1 = (outsAt0 m c (t.val - 1) (Nat.lt_of_le_of_lt (Nat.sub_le _ _) t.isLt)).2.1 := by
  rw [outsAt0_A m c t h0 (by omega) (by omega)]
  rfl

/-- The first block's part of the scale's gradient. -/
theorem out6_C (c : Dev nD) (t : Fin cfg0.N) (h : t.val % 4 = 3) (h3 : t.val < 4) :
    (outsAt0 m c t.val t.isLt).2.1 = k0_pay6 (iblk m c 2 t) (outsAt0 m c t.val t.isLt).2.2 := by
  rw [outsAt0_C m c t (by omega) (by omega) h h3 (by omega)]
  frame_out

/-- A later block's part of the scale's gradient. -/
theorem out6_D (c : Dev nD) (t : Fin cfg0.N) (h : t.val % 4 = 3) (h3 : ¬ t.val < 4) (j : S1x1024.Idx) :
    (outsAt0 m c t.val t.isLt).2.1 j = addE ((outsAt0 m c (t.val - 1) (Nat.lt_of_le_of_lt (Nat.sub_le _ _) t.isLt)).2.1 j)
      (k0_pay6 (iblk m c 2 t) (outsAt0 m c t.val t.isLt).2.2 j) := by
  have hN := lt_of_lt_of_eq t.isLt (show cfg0.N = 16 from N_0)
  rw [outsAt0_D m c t (by omega) (by omega) h h3 (by omega)]
  frame_out
  rw [pay8_at]
  rfl

/-! The blocks of the arguments. -/

/-- The block of the cotangent at point `t`. -/
theorem a_at (c : Dev nD) (t : Fin cfg0.N) (q : Fin 2) (r : Fin 1024) (k : Fin 704) (e : Fin 4) (R : Fin 4096)
    (he : (e : ℕ) = t.val % 4) (hR : (R : ℕ) = 1024 * (t.val / 4) + r) :
    (iblk m c 0 t : Vec Ideal S1x2x1024x704 .bf16) (ix4 0 q r k) = m ((c.tc : Thread nD τ).loc main_arg0) (ix4 e q R k) := by
  blk_point [iblk, V, idx t]

/-- The block of the weight at point `t`. -/
theorem w_at (c : Dev nD) (t : Fin cfg0.N) (q : Fin 2) (k : Fin 704) (j : Fin 1024) (l : Fin 5632)
    (hl : (l : ℕ) = q.val * 2816 + ((t.val % 4) * 704 + k.val)) :
    (iblk m c 1 t : Vec Ideal S1x2x704x1024 .bf16) (ix4 0 q k j) = m ((c.tc : Thread nD τ).loc main_arg1) (ix2 j l) := by
  blk_point [iblk, V, idx t]

/-- The block of tokens at point `t`. -/
theorem x_at (c : Dev nD) (t : Fin cfg0.N) (r : Fin 1024) (j : Fin 1024) (R : Fin 4096) (hR : (R : ℕ) = 1024 * (t.val / 4) + r) :
    (iblk m c 2 t : Vec Ideal S1024x1024 .f32) (ix2 r j) = m ((c.tc : Thread nD τ).loc main_arg2) (ix2 R j) := by
  blk_point [iblk, V, idx t]

/-- The scale. -/
theorem g_at (c : Dev nD) (t : Fin cfg0.N) (j : Fin 1024) :
    (iblk m c 3 t : Vec Ideal S1x1024 .f32) (ix2 0 j) = m ((c.tc : Thread nD τ).loc main_arg3) (ix2 0 j) := by
  blk_point [iblk, V, idx t]

/-- The block of the residual's cotangent at point `t`. -/
theorem r_at (c : Dev nD) (t : Fin cfg0.N) (r : Fin 1024) (j : Fin 1024) (R : Fin 4096) (hR : (R : ℕ) = 1024 * (t.val / 4) + r) :
    (iblk m c 4 t : Vec Ideal S1024x1024 .f32) (ix2 r j) = m ((c.tc : Thread nD τ).loc main_arg4) (ix2 R j) := by
  blk_point [iblk, V, idx t]

open Cert.Reference8Ideal.Read (val_main_v20 val_main_v23 val_main_v40 val_main_v23_eq val_main_v40_eq)

/-- The scratch at the end of a run is the reference's cotangent of the normed rows. -/
theorem d_eq (c : Dev nD) (t : Fin cfg0.N) (h : t.val % 4 = 3) (r j : Fin 1024) (R : Fin 4096)
    (hR : (R : ℕ) = 1024 * (t.val / 4) + r) :
    (outsAt0 m c t.val t.isLt).2.2 (ix2 r j)
      = val_main_v20 (F := Ideal) (m ((c.tc : Thread nD τ).loc main_arg0)) (m ((c.tc : Thread nD τ).loc main_arg1)) (ix2 R j) := by
  rw [scratch_eq m c t h]
  refine Eq.trans ?_ (ref_d _ _ R j).symm
  unfold dotE
  rw [sum_blocks]
  refine Finset.sum_congr rfl fun s _ => ?_
  have hs : s.val < 4 := s.isLt
  unfold part
  refine congrArg₂ (fun a b : EReal => a + b) (dotE_congr (fun k => ?_) fun k => ?_) (dotE_congr (fun k => ?_) fun k => ?_)
  · have hk : k.val < 704 := k.isLt
    refine (a_at m c _ 0 r k s R ?_ ?_).trans (congrArg _ ?_)
    · change s.val = (4 * (t.val / 4) + s.val) % 4; omega
    · change R.val = 1024 * ((4 * (t.val / 4) + s.val) / 4) + r.val; omega
    · congr 1 <;> apply Fin.ext <;> dsimp only <;> omega
  · have hk : k.val < 704 := k.isLt
    refine w_at m c _ 0 k j _ ?_
    change s.val * 704 + k.val = 0 * 2816 + ((4 * (t.val / 4) + s.val) % 4 * 704 + k.val); omega
  · have hk : k.val < 704 := k.isLt
    refine (a_at m c _ 1 r k s R ?_ ?_).trans (congrArg _ ?_)
    · change s.val = (4 * (t.val / 4) + s.val) % 4; omega
    · change R.val = 1024 * ((4 * (t.val / 4) + s.val) / 4) + r.val; omega
    · congr 1 <;> apply Fin.ext <;> dsimp only <;> omega
  · have hk : k.val < 704 := k.isLt
    refine w_at m c _ 1 k j _ ?_
    change 2816 + (s.val * 704 + k.val) = 1 * 2816 + ((4 * (t.val / 4) + s.val) % 4 * 704 + k.val); omega

/-- What the precondition says: the cotangent, the weight, the row and the scale are finite. -/
theorem finite (hpre : Cert.Pre_Kernel8Ideal_finite8 m) (c : Dev nD) :
    (∀ i, IsReal (m ((c.tc : Thread nD τ).loc main_arg0) i)) ∧ (∀ i, IsReal (m ((c.tc : Thread nD τ).loc main_arg1) i))
      ∧ (∀ i, IsReal (m ((c.tc : Thread nD τ).loc main_arg2) i)) ∧ ∀ i, IsReal (m ((c.tc : Thread nD τ).loc main_arg3) i) := by
  obtain ⟨h0, h1, h2, h3⟩ := hpre c
  exact ⟨fun i => real_of_cmp (congrFun h0 i), fun i => real_of_cmp (congrFun h1 i), fun i => real_of_cmp (congrFun h2 i),
    fun i => real_of_cmp (congrFun h3 i)⟩

/-- The row's gradient after the run is the reference's. -/
theorem final_dx (hpre : Cert.Pre_Kernel8Ideal_finite8 m) (c : Dev nD) : (dats m 0 c).arrAt 5 (cfgs 0).N
    = val_main_v40 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  obtain ⟨f0, f1, f2, f3⟩ := finite m hpre c
  refine (dats m 0 c).arrAt_eq_of_covers 5 _ (by decide +kernel) fun t hf y => ?_
  have h0 : (y 0 : ℕ) < 1024 := (y 0).isLt
  have ht : t.val < 16 := lt_of_lt_of_eq t.isLt N_0
  have h3 := (flush0_5 t).mp hf
  have h := ref_dx (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    ⟨1024 * (t.val / 4) + (y 0 : ℕ), by omega⟩ (y 1)
  have hd : ∀ j, IsReal (val_main_v20 (F := Ideal) (m ((c.tc : Thread nD τ).loc main_arg0)) (m ((c.tc : Thread nD τ).loc main_arg1))
      (ix2 ⟨1024 * (t.val / 4) + (y 0 : ℕ), by omega⟩ j)) := fun j => by
    rw [ref_d]
    exact fin_sum fun l => fin_mul (f0 _) (f1 _)
  have hk := kdx_eq (m ((c.tc : Thread nD τ).loc main_arg4) (ix2 ⟨1024 * (t.val / 4) + (y 0 : ℕ), by omega⟩ (y 1)))
    (fun j => m ((c.tc : Thread nD τ).loc main_arg2) (ix2 ⟨1024 * (t.val / 4) + (y 0 : ℕ), by omega⟩ j))
    (fun j => m ((c.tc : Thread nD τ).loc main_arg3) (ix2 0 j)) _ (fun j => f2 _) (fun j => f3 _) hd (y 1)
  have ho := out5_eq m c t h3 (y 0) (y 1)
  have hr := (addE_congr (r_at m c t (y 0) (y 1) ⟨1024 * (t.val / 4) + (y 0 : ℕ), by omega⟩ rfl)
    (kdx_congr (y 1) (fun j => x_at m c t (y 0) j ⟨1024 * (t.val / 4) + (y 0 : ℕ), by omega⟩ rfl) (fun j => g_at m c t j)
      (fun j => d_eq m c t h3 (y 0) j ⟨1024 * (t.val / 4) + (y 0 : ℕ), by omega⟩ rfl))).trans (hk.trans h.symm)
  blk_simp
  rw [after0_5]
  refine Eq.trans (congrArg _ ?_) ((ho.trans hr).trans (congrArg _ ?_))
  · blk_ext
  · blk_point [idx t]

/-- A block's part of the scale's gradient, over the arguments. -/
theorem dg_at (c : Dev nD) (t : Fin cfg0.N) (h : t.val % 4 = 3) (s : ℕ) (hs4 : s < 4) (hs : s = t.val / 4) (k : Fin 1024) :
    k0_pay6 (iblk m c 2 t) (outsAt0 m c t.val t.isLt).2.2 (ix2 0 k)
      = dotE (fun r : Fin 1024 => nxE (fun j => m ((c.tc : Thread nD τ).loc main_arg2) (ix2 (⟨s * 1024 + r.val, by omega⟩ : Fin 4096) j)) k)
          (fun r => val_main_v20 (F := Ideal) (m ((c.tc : Thread nD τ).loc main_arg0)) (m ((c.tc : Thread nD τ).loc main_arg1))
            (ix2 (⟨s * 1024 + r.val, by omega⟩ : Fin 4096) k)) := by
  have hR : ∀ r : Fin 1024, s * 1024 + r.val = 1024 * (t.val / 4) + r.val := fun r => by omega
  refine (pay6_at _ _ k).trans (Eq.trans (dotE_congr (fun r => d_eq m c t h r k ⟨s * 1024 + r.val, by omega⟩ (hR r))
    (fun r => nxE_congr k fun j => x_at m c t r j ⟨s * 1024 + r.val, by omega⟩ (hR r))) (dotE_comm _ _))

/-- Equal points leave equal contents. -/
theorem outs_congr (c : Dev nD) {a b : ℕ} (h : a = b) (ha : a < cfg0.N) (hb : b < cfg0.N) : outsAt0 m c a ha = outsAt0 m c b hb := by
  subst h; rfl

/-- Over a run that is not the first the scale's gradient grows by the block's part. -/
theorem out6_step (c : Dev nD) (t : Fin cfg0.N) (h : t.val % 4 = 3) (h3 : ¬ t.val < 4) (n : ℕ) (hn : n < cfg0.N) (e : n = t.val - 1 - 1 - 1 - 1)
    (j : S1x1024.Idx) : (outsAt0 m c t.val t.isLt).2.1 j = addE ((outsAt0 m c n hn).2.1 j)
      (k0_pay6 (iblk m c 2 t) (outsAt0 m c t.val t.isLt).2.2 j) := by
  subst e
  rw [out6_D m c t h h3 j]
  have e1 := out6_keep m c ⟨t.val - 1, by omega⟩ (by dsimp only; omega) (by dsimp only; omega)
  have e2 := out6_keep m c ⟨t.val - 1 - 1, by omega⟩ (by dsimp only; omega) (by dsimp only; omega)
  have e3 := out6_first m c ⟨t.val - 1 - 1 - 1, by omega⟩ (by dsimp only; omega) (by dsimp only; omega)
  exact addE_congr (congrFun (e1.trans (e2.trans e3)) j) rfl

/-- The scale's gradient after the last point. -/
theorem dg_total (c : Dev nD) (t3 t7 t11 t : Fin cfg0.N) (h3 : t3.val = 3) (h7 : t7.val = 7) (h11 : t11.val = 11) (h15 : t.val = 15) (k : Fin 1024) :
    (outsAt0 m c t.val t.isLt).2.1 (ix2 0 k) = val_main_v23 (F := Ideal) (m ((c.tc : Thread nD τ).loc main_arg0))
      (m ((c.tc : Thread nD τ).loc main_arg1)) (m ((c.tc : Thread nD τ).loc main_arg2)) (ix2 0 k) := by
  rw [ref_dg, dotE_blocks, out6_step m c t (by omega) (by omega) t11.val t11.isLt (by omega),
    out6_step m c t11 (by omega) (by omega) t7.val t7.isLt (by omega), out6_step m c t7 (by omega) (by omega) t3.val t3.isLt (by omega),
    out6_C m c t3 (by omega) (by omega), dg_at m c t3 (by omega) 0 (by omega) (by omega) k, dg_at m c t7 (by omega) 1 (by omega) (by omega) k,
    dg_at m c t11 (by omega) 2 (by omega) (by omega) k, dg_at m c t (by omega) 3 (by omega) (by omega) k]

/-- The scale's gradient after the run is the reference's. -/
theorem final_dg (c : Dev nD) : (dats m 0 c).arrAt 6 (cfgs 0).N
    = val_main_v23 (F := Ideal) (m ((c.tc : Thread nD τ).loc main_arg0)) (m ((c.tc : Thread nD τ).loc main_arg1))
        (m ((c.tc : Thread nD τ).loc main_arg2)) := by
  refine (dats m 0 c).arrAt_eq_of_covers 6 _ (by decide +kernel) fun t hf y => ?_
  have hN : cfg0.N = 16 := N_0
  have ht : t.val < 16 := lt_of_lt_of_eq t.isLt N_0
  have h15 := (flush0_6 t).mp hf
  have h := dg_total m c ⟨3, by rw [hN]; decide⟩ ⟨7, by rw [hN]; decide⟩ ⟨11, by rw [hN]; decide⟩ t rfl rfl rfl (by omega) (y 1)
  blk_simp
  rw [after0_6]
  refine Eq.trans (congrArg _ ?_) (h.trans (congrArg _ ?_))
  · blk_ext
  · blk_point [idx t]

/-- The kernel and the reference leave the same gradients. -/
theorem algebraic : Cert.algebraic_Kernel8Ideal_Reference8Ideal_pre_finite8 := by
  pair_intro
  · run_from Cert.Kernel8Ideal.Gen.run_main m g
  · refine (θ_run Cert.Reference8Ideal.defs _ _).mono (fun r h c => ?_) (Cert.Reference8Ideal.Value.run m' g')
    have hc := h c
    obtain ⟨a0, a1, a2, a3, a4⟩ := hagree c
    refine ⟨(hc.1.trans (val_main_v40_eq m' c)).trans (Eq.trans ?_ (final_dx m hpre c).symm),
      (hc.2.1.trans (val_main_v23_eq _ _ _)).trans (Eq.trans ?_ (final_dg m c).symm), hc.2.2⟩
    · rw [a0, a1, a2, a3, a4]
    · rw [a0, a1, a2]

/-- The reference runs to its end, keeps its arguments, and leaves every semaphore counter at zero. -/
theorem frame_ref : Cert.quiescent_Reference8Ideal := by
  intro m g _
  exact (θ_run Cert.Reference8Ideal.defs _ _).mono
    (fun r h => ⟨fun c => (h c).2.2, sem_eq_zero_of_no_sems (by decide) r.2⟩) (Cert.Reference8Ideal.Value.run m g)

end Cert.Kernel8Ideal.FfnInGrad

end
-- ==== Proof.MixInGrad.lean ====
/- The gradient of the mixer's input half (`mix_in_bwd`): the cotangent of the normed row is a product with the weight; the row's
   gradient is added to the residual's cotangent, and the scale's gradient is summed over the four blocks of tokens. The reference
   takes the derivative of the norm and the product. -/
module

public import proofs.«01_k».proof.Proof.Gen.Kernel9Ideal.Value
public import proofs.«01_k».proof.Proof.Gen.Reference9Ideal.Read
public import proofs.«01_k».proof.Proof.Gen.Pre_finite9
public import proofs.«01_k».proof.Proof.Norm
public import proofs.«01_k».proof.Proof.RmsGrad
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.MixInGrad

open Cert.Kernel9Ideal Cert.Kernel9Ideal.Gen Cert.Norm

variable (m : (ℓ : Loc nD τ sig) → Buf (Elt Ideal) ℓ)

/-! The reference, entry by entry. -/

section
open Cert.Reference9Ideal Cert.Reference9Ideal.Read

/-- The reference's gradient of the row, over its cotangent of the normed row. -/
theorem ref_dx (x0 : FVec Ideal Cert.Reference9Ideal.S4096x2816 .bf16) (x1 : FVec Ideal Cert.Reference9Ideal.S1024x2816 .bf16)
    (x2 : FVec Ideal Cert.Reference9Ideal.S4096x1024 .f32) (x3 : FVec Ideal Cert.Reference9Ideal.S1x1024 .f32)
    (x4 : FVec Ideal Cert.Reference9Ideal.S4096x1024 .f32) (r : Fin 4096) (k : Fin 1024) :
    val_main_v38 (F := Ideal) x0 x1 x2 x3 x4 (ix2 r k)
      = rdx (x4 (ix2 r k)) (fun j => x2 (ix2 r j)) (fun j => x3 (ix2 0 j)) (fun j => val_main_v18 (F := Ideal) x0 x1 (ix2 r j)) k := by
  unfold rdx rdm msE invE
  pointwise [val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v12, val_main_v11, val_main_v10, val_main_v9, val_main_v8, val_main_v7, val_main_v6, val_main_v5, val_main_v4,
    val_main_v3, val_main_v2, val_main_v1,
    val_main_cst, val_main_cst_0, val_main_cst_1, val_main_cst_2, val_main_cst_4, val_main_cst_5, val_main_cst_6]
  simp only [Finset.univ_unique, Finset.sum_singleton]

/-- The reference's gradient of the scale, over its cotangent of the normed row. -/
theorem ref_dg (x0 : FVec Ideal Cert.Reference9Ideal.S4096x2816 .bf16) (x1 : FVec Ideal Cert.Reference9Ideal.S1024x2816 .bf16)
    (x2 : FVec Ideal Cert.Reference9Ideal.S4096x1024 .f32) (k : Fin 1024) :
    val_main_v21 (F := Ideal) x0 x1 x2 (ix2 0 k)
      = dotE (fun r : Fin 4096 => nxE (fun j => x2 (ix2 r j)) k) (fun r => val_main_v18 (F := Ideal) x0 x1 (ix2 r k)) := by
  unfold dotE nxE invE
  pointwise [val_main_v21, val_main_v20, val_main_v19, val_main_v14, val_main_v13, val_main_v12, val_main_v11, val_main_v10,
    val_main_v9, val_main_v8, val_main_v7, val_main_v6, val_main_v5, val_main_v4, val_main_v3, val_main_v2, val_main_v1,
    val_main_cst, val_main_cst_0, val_main_cst_1, val_main_cst_3]

/-- The reference's cotangent of the normed row. -/
theorem ref_d (x0 : FVec Ideal Cert.Reference9Ideal.S4096x2816 .bf16) (x1 : FVec Ideal Cert.Reference9Ideal.S1024x2816 .bf16)
    (r : Fin 4096) (j : Fin 1024) :
    val_main_v18 (F := Ideal) x0 x1 (ix2 r j)
      = dotE (fun l : Fin 2816 => x0 (ix2 r l)) (fun l => x1 (ix2 j l)) := by
  unfold dotE
  pointwise [val_main_v18, val_main_v17, val_main_v0]

end

/-! What a point writes. -/

/-- The product payload at an entry. -/
theorem pay1_at (A : Vec Ideal S1x1x1024x2816 .bf16) (W : Vec Ideal S1x1x2816x1024 .bf16) (r j : Fin 1024) :
    k0_pay1 A W (ix2 r j) = dotE (fun k : Fin 2816 => A (ix4 0 0 r k)) (fun k => W (ix4 0 0 k j)) := by
  unfold dotE
  pointwise [k0_pay1]

/-- The scratch holds the product. -/
theorem pay2_at (A : Vec Ideal S1x1x1024x2816 .bf16) (W : Vec Ideal S1x1x2816x1024 .bf16) (j : S1024x1024.Idx) :
    k0_pay2 A W j = k0_pay1 A W j := by
  pointwise [k0_pay2]
  blk_ext

/-- The inverse root mean square of a row. -/
theorem pay4_at (X : Vec Ideal S1024x1024 .f32) (r : Fin 1024) :
    k0_pay4 X (ix2 r 0) = invE (fun j => X (ix2 r j)) := by
  unfold invE
  pointwise [k0_pay4]

/-- The normed row. -/
theorem pay5_at (X : Vec Ideal S1024x1024 .f32) (r k : Fin 1024) :
    k0_pay5 X (ix2 r k) = X (ix2 r k) * invE (fun j => X (ix2 r j)) := by
  have h := pay4_at X r
  simp only [← h]
  pointwise [k0_pay5]

/-- A block's part of the scale's gradient. -/
theorem pay6_at (X d : Vec Ideal S1024x1024 .f32) (k : Fin 1024) :
    k0_pay6 X d (ix2 0 k) = dotE (fun r : Fin 1024 => d (ix2 r k)) (fun r => nxE (fun j => X (ix2 r j)) k) := by
  have h := fun r => pay5_at X r k
  unfold dotE nxE
  simp only [← h]
  pointwise [k0_pay6]

/-- The row's gradient added to the residual's cotangent. -/
theorem pay7_at (X : Vec Ideal S1024x1024 .f32) (g : Vec Ideal S1x1024 .f32) (d res : Vec Ideal S1024x1024 .f32) (r k : Fin 1024) :
    k0_pay7 X g d res (ix2 r k)
      = res (ix2 r k) + kdx (fun j => X (ix2 r j)) (fun j => g (ix2 0 j)) (fun j => d (ix2 r j)) k := by
  have h4 := pay4_at X r
  have h5 := fun j => pay5_at X r j
  unfold kdx
  simp only [← h5]
  simp only [← h4]
  pointwise [k0_pay7]

/-- The windows' block indices. -/
theorem idx : ∀ t : Fin cfg0.N, win0_0.index t = ![0, 0, t.val, 0] ∧ win0_1.index t = ![0, 0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- A later block of tokens adds its part of the scale's gradient. -/
theorem pay8_at (X d : Vec Ideal S1024x1024 .f32) (acc : Vec Ideal S1x1024 .f32) (j : S1x1024.Idx) :
    k0_pay8 X d acc j = acc j + k0_pay6 X d j := by
  pointwise [k0_pay8]
  blk_ext

/-- The output block is the residual's cotangent plus the row's gradient. -/
theorem out5_eq (c : Dev nD) (t : Fin cfg0.N) (r k : Fin 1024) :
    (outsAt0 m c t.val t.isLt).1 (ix2 r k)
      = addE ((iblk m c 4 t : Vec Ideal S1024x1024 .f32) (ix2 r k))
        (kdx (fun j => (iblk m c 2 t : Vec Ideal S1024x1024 .f32) (ix2 r j)) (fun j => (iblk m c 3 t : Vec Ideal S1x1024 .f32) (ix2 0 j))
          (fun j => (k0_pay2 (iblk m c 0 t) (iblk m c 1 t) : Vec Ideal S1024x1024 .f32) (ix2 r j)) k) := by
  have hN := lt_of_lt_of_eq t.isLt (show cfg0.N = 4 from N_0)
  by_cases h : t.val % 4 = 0
  · rw [outsAt0_A m c t h (by omega)]
    frame_out
    exact pay7_at _ _ _ _ r k
  · rw [outsAt0_B m c t h (by omega)]
    frame_out
    exact pay7_at _ _ _ _ r k

/-- The first block's part of the scale's gradient. -/
theorem out6_A (c : Dev nD) (t : Fin cfg0.N) (h : t.val % 4 = 0) :
    (outsAt0 m c t.val t.isLt).2 = k0_pay6 (iblk m c 2 t) (k0_pay2 (iblk m c 0 t) (iblk m c 1 t) : Vec Ideal S1024x1024 .f32) := by
  have hN := lt_of_lt_of_eq t.isLt (show cfg0.N = 4 from N_0)
  rw [outsAt0_A m c t h (by omega)]
  frame_out

/-- A later block adds its part of the scale's gradient. -/
theorem out6_B (c : Dev nD) (t : Fin cfg0.N) (h : ¬ t.val % 4 = 0) (n : ℕ) (hn : n < cfg0.N) (e : n = t.val - 1) (j : S1x1024.Idx) :
    (outsAt0 m c t.val t.isLt).2 j = addE ((outsAt0 m c n hn).2 j)
      (k0_pay6 (iblk m c 2 t) (k0_pay2 (iblk m c 0 t) (iblk m c 1 t) : Vec Ideal S1024x1024 .f32) j) := by
  subst e
  rw [outsAt0_B m c t h (by omega)]
  frame_out
  rw [pay8_at]
  rfl

/-! The blocks of the arguments. -/

/-- The block of the cotangent at point `t`. -/
theorem a_at (c : Dev nD) (t : Fin cfg0.N) (r : Fin 1024) (k : Fin 2816) (R : Fin 4096) (hR : (R : ℕ) = 1024 * t.val + r) :
    (iblk m c 0 t : Vec Ideal S1x1x1024x2816 .bf16) (ix4 0 0 r k) = m ((c.tc : Thread nD τ).loc main_arg0) (ix2 R k) := by
  blk_point [iblk, V, idx t]

/-- The weight, transposed. -/
theorem w_at (c : Dev nD) (t : Fin cfg0.N) (k : Fin 2816) (j : Fin 1024) :
    (iblk m c 1 t : Vec Ideal S1x1x2816x1024 .bf16) (ix4 0 0 k j) = m ((c.tc : Thread nD τ).loc main_arg1) (ix2 j k) := by
  blk_point [iblk, V, idx t]

/-- The block of tokens at point `t`. -/
theorem x_at (c : Dev nD) (t : Fin cfg0.N) (r : Fin 1024) (j : Fin 1024) (R : Fin 4096) (hR : (R : ℕ) = 1024 * t.val + r) :
    (iblk m c 2 t : Vec Ideal S1024x1024 .f32) (ix2 r j) = m ((c.tc : Thread nD τ).loc main_arg2) (ix2 R j) := by
  blk_point [iblk, V, idx t]

/-- The scale. -/
theorem g_at (c : Dev nD) (t : Fin cfg0.N) (j : Fin 1024) :
    (iblk m c 3 t : Vec Ideal S1x1024 .f32) (ix2 0 j) = m ((c.tc : Thread nD τ).loc main_arg3) (ix2 0 j) := by
  blk_point [iblk, V, idx t]

/-- The block of the residual's cotangent at point `t`. -/
theorem r_at (c : Dev nD) (t : Fin cfg0.N) (r : Fin 1024) (j : Fin 1024) (R : Fin 4096) (hR : (R : ℕ) = 1024 * t.val + r) :
    (iblk m c 4 t : Vec Ideal S1024x1024 .f32) (ix2 r j) = m ((c.tc : Thread nD τ).loc main_arg4) (ix2 R j) := by
  blk_point [iblk, V, idx t]

open Cert.Reference9Ideal.Read (val_main_v18 val_main_v21 val_main_v38 val_main_v21_eq val_main_v38_eq)

/-- The product that the scratch keeps is the reference's cotangent of the normed rows. -/
theorem d_eq (c : Dev nD) (t : Fin cfg0.N) (r j : Fin 1024) (R : Fin 4096) (hR : (R : ℕ) = 1024 * t.val + r) :
    (k0_pay2 (iblk m c 0 t) (iblk m c 1 t) : Vec Ideal S1024x1024 .f32) (ix2 r j)
      = val_main_v18 (F := Ideal) (m ((c.tc : Thread nD τ).loc main_arg0)) (m ((c.tc : Thread nD τ).loc main_arg1)) (ix2 R j) := by
  rw [pay2_at]
  exact (pay1_at _ _ r j).trans ((dotE_congr (fun k => a_at m c t r k R hR) fun k => w_at m c t k j).trans (ref_d _ _ R j).symm)

/-- What the precondition says: the cotangent, the weight, the row and the scale are finite. -/
theorem finite (hpre : Cert.Pre_Kernel9Ideal_finite9 m) (c : Dev nD) :
    (∀ i, IsReal (m ((c.tc : Thread nD τ).loc main_arg0) i)) ∧ (∀ i, IsReal (m ((c.tc : Thread nD τ).loc main_arg1) i))
      ∧ (∀ i, IsReal (m ((c.tc : Thread nD τ).loc main_arg2) i)) ∧ ∀ i, IsReal (m ((c.tc : Thread nD τ).loc main_arg3) i) := by
  obtain ⟨h0, h1, h2, h3⟩ := hpre c
  exact ⟨fun i => real_of_cmp (congrFun h0 i), fun i => real_of_cmp (congrFun h1 i), fun i => real_of_cmp (congrFun h2 i),
    fun i => real_of_cmp (congrFun h3 i)⟩

/-- The row's gradient after the run is the reference's. -/
theorem final_dx (hpre : Cert.Pre_Kernel9Ideal_finite9 m) (c : Dev nD) : (dats m 0 c).arrAt 5 (cfgs 0).N
    = val_main_v38 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  obtain ⟨f0, f1, f2, f3⟩ := finite m hpre c
  refine (dats m 0 c).arrAt_eq_of_covers 5 _ (by decide +kernel) fun t hf y => ?_
  have h0 : (y 0 : ℕ) < 1024 := (y 0).isLt
  have ht : t.val < 4 := lt_of_lt_of_eq t.isLt N_0
  have h := ref_dx (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    ⟨1024 * t.val + (y 0 : ℕ), by omega⟩ (y 1)
  have hd : ∀ j, IsReal (val_main_v18 (F := Ideal) (m ((c.tc : Thread nD τ).loc main_arg0)) (m ((c.tc : Thread nD τ).loc main_arg1))
      (ix2 ⟨1024 * t.val + (y 0 : ℕ), by omega⟩ j)) := fun j => by
    rw [ref_d]
    exact fin_sum fun l => fin_mul (f0 _) (f1 _)
  have hk := kdx_eq (m ((c.tc : Thread nD τ).loc main_arg4) (ix2 ⟨1024 * t.val + (y 0 : ℕ), by omega⟩ (y 1)))
    (fun j => m ((c.tc : Thread nD τ).loc main_arg2) (ix2 ⟨1024 * t.val + (y 0 : ℕ), by omega⟩ j))
    (fun j => m ((c.tc : Thread nD τ).loc main_arg3) (ix2 0 j)) _ (fun j => f2 _) (fun j => f3 _) hd (y 1)
  have ho := out5_eq m c t (y 0) (y 1)
  have hr := (addE_congr (r_at m c t (y 0) (y 1) ⟨1024 * t.val + (y 0 : ℕ), by omega⟩ rfl)
    (kdx_congr (y 1) (fun j => x_at m c t (y 0) j ⟨1024 * t.val + (y 0 : ℕ), by omega⟩ rfl) (fun j => g_at m c t j)
      (fun j => d_eq m c t (y 0) j ⟨1024 * t.val + (y 0 : ℕ), by omega⟩ rfl))).trans (hk.trans h.symm)
  blk_simp
  rw [after0_5]
  refine Eq.trans (congrArg _ ?_) ((ho.trans hr).trans (congrArg _ ?_))
  · blk_ext
  · blk_point [idx t]

/-- A block's part of the scale's gradient, over the arguments. -/
theorem dg_at (c : Dev nD) (t : Fin cfg0.N) (s : ℕ) (hs4 : s < 4) (hs : s = t.val) (k : Fin 1024) :
    k0_pay6 (iblk m c 2 t) (k0_pay2 (iblk m c 0 t) (iblk m c 1 t) : Vec Ideal S1024x1024 .f32) (ix2 0 k)
      = dotE (fun r : Fin 1024 => nxE (fun j => m ((c.tc : Thread nD τ).loc main_arg2) (ix2 (⟨s * 1024 + r.val, by omega⟩ : Fin 4096) j)) k)
          (fun r => val_main_v18 (F := Ideal) (m ((c.tc : Thread nD τ).loc main_arg0)) (m ((c.tc : Thread nD τ).loc main_arg1))
            (ix2 (⟨s * 1024 + r.val, by omega⟩ : Fin 4096) k)) := by
  have hR : ∀ r : Fin 1024, s * 1024 + r.val = 1024 * t.val + r.val := fun r => by omega
  refine (pay6_at _ _ k).trans (Eq.trans (dotE_congr (fun r => d_eq m c t r k ⟨s * 1024 + r.val, by omega⟩ (hR r))
    (fun r => nxE_congr k fun j => x_at m c t r j ⟨s * 1024 + r.val, by omega⟩ (hR r))) (dotE_comm _ _))

/-- The scale's gradient after the last point. -/
theorem dg_total (c : Dev nD) (t0 t1 t2 t : Fin cfg0.N) (h0 : t0.val = 0) (h1 : t1.val = 1) (h2 : t2.val = 2) (h3 : t.val = 3) (k : Fin 1024) :
    (outsAt0 m c t.val t.isLt).2 (ix2 0 k) = val_main_v21 (F := Ideal) (m ((c.tc : Thread nD τ).loc main_arg0))
      (m ((c.tc : Thread nD τ).loc main_arg1)) (m ((c.tc : Thread nD τ).loc main_arg2)) (ix2 0 k) := by
  rw [ref_dg, dotE_blocks, out6_B m c t (by omega) t2.val t2.isLt (by omega),
    out6_B m c t2 (by omega) t1.val t1.isLt (by omega), out6_B m c t1 (by omega) t0.val t0.isLt (by omega),
    out6_A m c t0 (by omega), dg_at m c t0 0 (by omega) (by omega) k, dg_at m c t1 1 (by omega) (by omega) k,
    dg_at m c t2 2 (by omega) (by omega) k, dg_at m c t 3 (by omega) (by omega) k]

/-- The scale's gradient after the run is the reference's. -/
theorem final_dg (c : Dev nD) : (dats m 0 c).arrAt 6 (cfgs 0).N
    = val_main_v21 (F := Ideal) (m ((c.tc : Thread nD τ).loc main_arg0)) (m ((c.tc : Thread nD τ).loc main_arg1))
        (m ((c.tc : Thread nD τ).loc main_arg2)) := by
  refine (dats m 0 c).arrAt_eq_of_covers 6 _ (by decide +kernel) fun t hf y => ?_
  have hN : cfg0.N = 4 := N_0
  have ht : t.val < 4 := lt_of_lt_of_eq t.isLt N_0
  have h3 := (flush0_6 t).mp hf
  have h := dg_total m c ⟨0, by rw [hN]; decide⟩ ⟨1, by rw [hN]; decide⟩ ⟨2, by rw [hN]; decide⟩ t rfl rfl rfl (by omega) (y 1)
  blk_simp
  rw [after0_6]
  refine Eq.trans (congrArg _ ?_) (h.trans (congrArg _ ?_))
  · blk_ext
  · blk_point [idx t]

/-- The kernel and the reference leave the same gradients. -/
theorem algebraic : Cert.algebraic_Kernel9Ideal_Reference9Ideal_pre_finite9 := by
  pair_intro
  · run_from Cert.Kernel9Ideal.Gen.run_main m g
  · refine (θ_run Cert.Reference9Ideal.defs _ _).mono (fun r h c => ?_) (Cert.Reference9Ideal.Value.run m' g')
    have hc := h c
    obtain ⟨a0, a1, a2, a3, a4⟩ := hagree c
    refine ⟨(hc.1.trans (val_main_v38_eq m' c)).trans (Eq.trans ?_ (final_dx m hpre c).symm),
      (hc.2.1.trans (val_main_v21_eq _ _ _)).trans (Eq.trans ?_ (final_dg m c).symm), hc.2.2⟩
    · rw [a0, a1, a2, a3, a4]
    · rw [a0, a1, a2]

/-- The reference runs to its end, keeps its arguments, and leaves every semaphore counter at zero. -/
theorem frame_ref : Cert.quiescent_Reference9Ideal := by
  intro m g _
  exact (θ_run Cert.Reference9Ideal.defs _ _).mono
    (fun r h => ⟨fun c => (h c).2.2, sem_eq_zero_of_no_sems (by decide) r.2⟩) (Cert.Reference9Ideal.Value.run m g)

end Cert.Kernel9Ideal.MixInGrad

end
-- ==== Proof.MixOutGrad.lean ====
/- The gradient of the mixer's output half (`mix_out_bwd`): the gradient of the row norm, its product with the weight (four tiles
   of rows per block of tokens), and the scale's gradient, summed over the four blocks of tokens. The reference takes the
   derivative of the norm and of the product. -/
module

public import proofs.«01_k».proof.Proof.Gen.Kernel10Ideal.Value
public import proofs.«01_k».proof.Proof.Gen.Reference10Ideal.Read
public import proofs.«01_k».proof.Proof.Gen.Pre_finite10
public import proofs.«01_k».proof.Proof.Norm
public import proofs.«01_k».proof.Proof.RmsGrad
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.MixOutGrad

open Cert.Kernel10Ideal Cert.Kernel10Ideal.Gen Cert.Norm

variable (m : (ℓ : Loc nD τ sig) → Buf (Elt Ideal) ℓ)

/-! The reference, entry by entry. -/

section
open Cert.Reference10Ideal Cert.Reference10Ideal.Read

/-- The reference's gradient of the norm. -/
theorem ref_df (x0 x1 : FVec Ideal Cert.Reference10Ideal.S4096x1024 .f32) (x2 : FVec Ideal Cert.Reference10Ideal.S1x1024 .f32)
    (r : Fin 4096) (k : Fin 1024) :
    val_main_v34 (F := Ideal) x0 x1 x2 (ix2 r k)
      = rdx 0 (fun j => x1 (ix2 r j)) (fun j => x2 (ix2 0 j)) (fun j => x0 (ix2 r j)) k := by
  unfold rdx rdm msE invE
  rw [zero_add]
  pointwise [val_main_v34, val_main_v33, val_main_v32,
    val_main_v31, val_main_v30, val_main_v29, val_main_v28, val_main_v27, val_main_v26, val_main_v25, val_main_v24, val_main_v23,
    val_main_v22, val_main_v21, val_main_v20, val_main_v19, val_main_v11, val_main_v10, val_main_v9, val_main_v8, val_main_v7,
    val_main_v6, val_main_v5, val_main_v4, val_main_v3, val_main_v2, val_main_v1,
    val_main_cst, val_main_cst_0, val_main_cst_1, val_main_cst_2, val_main_cst_4, val_main_cst_5, val_main_cst_6]
  simp only [Finset.univ_unique, Finset.sum_singleton]

/-- The reference's first result is that gradient. -/
theorem ref_df16 (x0 x1 : FVec Ideal Cert.Reference10Ideal.S4096x1024 .f32) (x2 : FVec Ideal Cert.Reference10Ideal.S1x1024 .f32)
    (r : Fin 4096) (k : Fin 1024) : val_main_v38 (F := Ideal) x0 x1 x2 (ix2 r k) = val_main_v34 (F := Ideal) x0 x1 x2 (ix2 r k) := by
  pointwise [val_main_v38]

/-- The reference's gradient of the scale. -/
theorem ref_dg (x0 x1 : FVec Ideal Cert.Reference10Ideal.S4096x1024 .f32) (k : Fin 1024) :
    val_main_v18 (F := Ideal) x0 x1 (ix2 0 k)
      = dotE (fun r : Fin 4096 => nxE (fun j => x1 (ix2 r j)) k) (fun r => x0 (ix2 r k)) := by
  unfold dotE nxE invE
  pointwise [val_main_v18, val_main_v17, val_main_v16, val_main_v13, val_main_v12, val_main_v8, val_main_v7,
    val_main_v6, val_main_v5, val_main_v4, val_main_v3, val_main_v2, val_main_v1,
    val_main_cst, val_main_cst_0, val_main_cst_1, val_main_cst_3]

/-- The reference's gradient of the mixed rows: the norm's gradient times the weight. -/
theorem ref_dh (x0 x1 : FVec Ideal Cert.Reference10Ideal.S4096x1024 .f32) (x2 : FVec Ideal Cert.Reference10Ideal.S1x1024 .f32)
    (x3 : FVec Ideal Cert.Reference10Ideal.S1024x1024 .bf16) (r : Fin 4096) (k : Fin 1024) :
    val_main_v39 (F := Ideal) x0 x1 x2 x3 (ix3 0 r k)
      = dotE (fun j => val_main_v34 (F := Ideal) x0 x1 x2 (ix2 r j)) (fun j => x3 (ix2 k j)) := by
  unfold dotE
  pointwise [val_main_v39, val_main_v37, val_main_v0]

end

/-! What a point writes. -/

/-- The constant of the residual's factor. -/
theorem one_bits : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

/-- The cotangent, times one. -/
theorem pay2_at (D : Vec Ideal S1024x1024 .f32) (r k : Fin 1024) : k0_pay2 D (ix2 r k) = D (ix2 r k) := by
  have h : k0_pay2 D (ix2 r k) = Ideal.ofBits .f32 0x3F800000#32 * D (ix2 r k) := by pointwise [k0_pay2]
  rw [h, one_bits, one_mul]

/-- The inverse root mean square of a row. -/
theorem pay3_at (X : Vec Ideal S1024x1024 .f32) (r : Fin 1024) :
    k0_pay3 X (ix2 r 0) = invE (fun j => X (ix2 r j)) := by
  unfold invE
  pointwise [k0_pay3]

/-- The normed row. -/
theorem pay4_at (X : Vec Ideal S1024x1024 .f32) (r k : Fin 1024) :
    k0_pay4 X (ix2 r k) = X (ix2 r k) * invE (fun j => X (ix2 r j)) := by
  have h := pay3_at X r
  simp only [← h]
  pointwise [k0_pay4]

/-- A block's part of the scale's gradient. -/
theorem pay5_at (X D : Vec Ideal S1024x1024 .f32) (k : Fin 1024) :
    k0_pay5 X D (ix2 0 k) = dotE (fun r : Fin 1024 => D (ix2 r k)) (fun r => nxE (fun j => X (ix2 r j)) k) := by
  have h := fun r => pay4_at X r k
  have h2 := fun r => pay2_at D r k
  unfold dotE nxE
  simp only [← h, ← h2]
  pointwise [k0_pay5]

/-- The norm's gradient. -/
theorem pay6_at (X : Vec Ideal S1024x1024 .f32) (g : Vec Ideal S1x1024 .f32) (D : Vec Ideal S1024x1024 .f32) (r k : Fin 1024) :
    k0_pay6 X g D (ix2 r k)
      = kdx (fun j => X (ix2 r j)) (fun j => g (ix2 0 j)) (fun j => D (ix2 r j)) k := by
  have h3 := pay3_at X r
  have h4 := fun j => pay4_at X r j
  have h2 := fun j => pay2_at D r j
  unfold kdx
  simp only [← h4]
  simp only [← h3]
  simp only [← h2]
  pointwise [k0_pay6]
  blk_ext

/-- A later block of tokens adds its part of the scale's gradient. -/
theorem pay7_at (v acc : Vec Ideal S1x1024 .f32) (j : S1x1024.Idx) : k0_pay7 v acc j = acc j + v j := by
  pointwise [k0_pay7]
  blk_ext

/-- Rows `256 s …` of a block. -/
def rows (D : Vec Ideal S1024x1024 .bf16) (s : Fin 4) : Vec Ideal S256x1024 .bf16 :=
  View.ld D (Rect.unit (s := S1024x1024) ![256 * (s : ℕ), 0] S256x1024.size (by intro a; fin_cases a <;> dsimp <;> omega))

/-- An entry of those rows. -/
theorem rows_at (D : Vec Ideal S1024x1024 .bf16) (s : Fin 4) (r : Fin 256) (k : Fin 1024) :
    rows D s (ix2 r k) = D (ix2 ⟨256 * s + r, by omega⟩ k) := by
  pointwise [rows]
  blk_ext

/-- A tile's product. -/
theorem pay1_at (U : Vec Ideal S256x1024 .bf16) (W : Vec Ideal S1x1024x1024 .bf16) (x : S1x256x1024.Idx) :
    k0_pay1 U W x = dotE (fun j => U (ix2 (x 1) j)) (fun j => W (ix3 0 (x 2) j)) := by
  unfold dotE
  pointwise [k0_pay1]

/-- A tile of the product, at an entry of the block. -/
theorem tile (D : Vec Ideal S1024x1024 .bf16) (W : Vec Ideal S1x1024x1024 .bf16) (s : Fin 4) (y : S1x1024x1024.Idx) (x : S1x256x1024.Idx)
    (h1 : (y 1 : ℕ) = 256 * s + x 1) (h2 : (y 2 : ℕ) = x 2) :
    k0_pay1 (rows D s) W x = dotE (fun j => D (ix2 (y 1) j)) (fun j => W (ix3 0 (y 2) j)) := by
  refine (pay1_at _ W x).trans ((dotE_congr (fun j => rows_at D s (x 1) j) fun j => rfl).trans ?_)
  have e1 : (⟨256 * s + (x 1 : ℕ), by have := (x 1).isLt; dsimp at this; omega⟩ : Fin 1024) = y 1 := Fin.ext h1.symm
  have e2 : (x 2 : Fin 1024) = y 2 := Fin.ext h2.symm
  rw [← e1, ← e2]

/-- The same for any rows `U` that are those of the block. -/
theorem tile_of (D : Vec Ideal S1024x1024 .bf16) (W : Vec Ideal S1x1024x1024 .bf16) (s : Fin 4) (y : S1x1024x1024.Idx) (x : S1x256x1024.Idx)
    (U : Vec Ideal S256x1024 .bf16) (hU : U = rows D s) (h1 : (y 1 : ℕ) = 256 * s + x 1) (h2 : (y 2 : ℕ) = x 2) :
    k0_pay1 U W x = dotE (fun j => D (ix2 (y 1) j)) (fun j => W (ix3 0 (y 2) j)) := by
  subst hU
  exact tile D W s y x h1 h2

/-- The windows' block indices. -/
theorem idx : ∀ t : Fin cfg0.N, win0_0.index t = ![t.val, 0] ∧ win0_1.index t = ![t.val, 0] ∧ win0_2.index t = ![0, 0]
    ∧ win0_3.index t = ![0, 0, 0] ∧ win0_4.index t = ![t.val, 0] ∧ win0_5.index t = ![0, 0] ∧ win0_6.index t = ![0, t.val, 0] :=
  (by decide +kernel : ∀ t : Fin grid0.N, _)

/-- The block of the norm's gradient at point `t`. -/
def dfB (c : Dev nD) (t : Fin cfg0.N) : Vec Ideal S1024x1024 .bf16 := k0_pay6 (iblk m c 1 t) (iblk m c 2 t) (iblk m c 0 t)

/-- The first output block is the norm's gradient. -/
theorem out4_eq (c : Dev nD) (t : Fin cfg0.N) : (outsAt0 m c t.val t.isLt).1 = dfB m c t := by
  have hN := lt_of_lt_of_eq t.isLt (show cfg0.N = 4 from N_0)
  unfold dfB
  by_cases h : t.val % 4 = 0
  · rw [outsAt0_A m c t h (by omega)]
    frame_out
  · rw [outsAt0_B m c t h (by omega)]
    frame_out

/-- The third output block is the norm's gradient times the weight. -/
theorem out6_eq (c : Dev nD) (t : Fin cfg0.N) (y : S1x1024x1024.Idx) :
    (outsAt0 m c t.val t.isLt).2.2 y
      = dotE (fun j => dfB m c t (ix2 (y 1) j)) (fun j => (iblk m c 3 t : Vec Ideal S1x1024x1024 .bf16) (ix3 0 (y 2) j)) := by
  have hN := lt_of_lt_of_eq t.isLt (show cfg0.N = 4 from N_0)
  unfold dfB
  by_cases h : t.val % 4 = 0
  · rw [outsAt0_A m c t h (by omega)]
    generalize iblk m c 0 t = D
    generalize iblk m c 1 t = X
    generalize iblk m c 2 t = g
    generalize iblk m c 3 t = W
    frame_out
    canon_tiles x h
    case piece0 => exact tile_of _ W 3 y x _ (View.readCov_fill _ _ _ _ _ (by decide)) h1 h2
    case piece1 => exact tile_of _ W 2 y x _ (View.readCov_fill _ _ _ _ _ (by decide)) h1 h2
    case piece2 => exact tile_of _ W 1 y x _ (View.readCov_fill _ _ _ _ _ (by decide)) h1 h2
    case piece3 => exact tile_of _ W 0 y x _ (View.readCov_fill _ _ _ _ _ (by decide)) (h1.trans (Nat.zero_add _).symm) h2
  · rw [outsAt0_B m c t h (by omega)]
    generalize iblk m c 0 t = D
    generalize iblk m c 1 t = X
    generalize iblk m c 2 t = g
    generalize iblk m c 3 t = W
    frame_out
    canon_tiles x h
    case piece0 => exact tile_of _ W 3 y x _ (View.readCov_fill _ _ _ _ _ (by decide)) h1 h2
    case piece1 => exact tile_of _ W 2 y x _ (View.readCov_fill _ _ _ _ _ (by decide)) h1 h2
    case piece2 => exact tile_of _ W 1 y x _ (View.readCov_fill _ _ _ _ _ (by decide)) h1 h2
    case piece3 => exact tile_of _ W 0 y x _ (View.readCov_fill _ _ _ _ _ (by decide)) (h1.trans (Nat.zero_add _).symm) h2

/-- The first block's part of the scale's gradient. -/
theorem out5_A (c : Dev nD) (t : Fin cfg0.N) (h : t.val % 4 = 0) :
    (outsAt0 m c t.val t.isLt).2.1 = k0_pay5 (iblk m c 1 t) (iblk m c 0 t) := by
  have hN := lt_of_lt_of_eq t.isLt (show cfg0.N = 4 from N_0)
  rw [outsAt0_A m c t h (by omega)]
  frame_out

/-- A later block adds its part of the scale's gradient. -/
theorem out5_B (c : Dev nD) (t : Fin cfg0.N) (h : ¬ t.val % 4 = 0) (n : ℕ) (hn : n < cfg0.N) (e : n = t.val - 1) (j : S1x1024.Idx) :
    (outsAt0 m c t.val t.isLt).2.1 j = addE ((outsAt0 m c n hn).2.1 j) (k0_pay5 (iblk m c 1 t) (iblk m c 0 t) j) := by
  subst e
  rw [outsAt0_B m c t h (by omega)]
  frame_out
  rw [pay7_at]
  rfl

/-! The blocks of the arguments. -/

/-- The block of the cotangent at point `t`. -/
theorem d_at (c : Dev nD) (t : Fin cfg0.N) (r : Fin 1024) (j : Fin 1024) (R : Fin 4096) (hR : (R : ℕ) = 1024 * t.val + r) :
    (iblk m c 0 t : Vec Ideal S1024x1024 .f32) (ix2 r j) = m ((c.tc : Thread nD τ).loc main_arg0) (ix2 R j) := by
  blk_point [iblk, V, idx t]

/-- The block of the norm's rows at point `t`. -/
theorem x_at (c : Dev nD) (t : Fin cfg0.N) (r : Fin 1024) (j : Fin 1024) (R : Fin 4096) (hR : (R : ℕ) = 1024 * t.val + r) :
    (iblk m c 1 t : Vec Ideal S1024x1024 .f32) (ix2 r j) = m ((c.tc : Thread nD τ).loc main_arg1) (ix2 R j) := by
  blk_point [iblk, V, idx t]

/-- The scale. -/
theorem g_at (c : Dev nD) (t : Fin cfg0.N) (j : Fin 1024) :
    (iblk m c 2 t : Vec Ideal S1x1024 .f32) (ix2 0 j) = m ((c.tc : Thread nD τ).loc main_arg2) (ix2 0 j) := by
  blk_point [iblk, V, idx t]

/-- The weight. -/
theorem w_at (c : Dev nD) (t : Fin cfg0.N) (k j : Fin 1024) :
    (iblk m c 3 t : Vec Ideal S1x1024x1024 .bf16) (ix3 0 k j) = m ((c.tc : Thread nD τ).loc main_arg3) (ix2 k j) := by
  blk_point [iblk, V, idx t]

open Cert.Reference10Ideal.Read (val_main_v18 val_main_v34 val_main_v38 val_main_v39 val_main_v18_eq val_main_v38_eq val_main_v39_eq)

/-- What the precondition says: the cotangent, the row and the scale are finite. -/
theorem finite (hpre : Cert.Pre_Kernel10Ideal_finite10 m) (c : Dev nD) :
    (∀ i, IsReal (m ((c.tc : Thread nD τ).loc main_arg0) i)) ∧ (∀ i, IsReal (m ((c.tc : Thread nD τ).loc main_arg1) i))
      ∧ ∀ i, IsReal (m ((c.tc : Thread nD τ).loc main_arg2) i) := by
  obtain ⟨h0, h1, h2⟩ := hpre c
  exact ⟨fun i => real_of_cmp (congrFun h0 i), fun i => real_of_cmp (congrFun h1 i), fun i => real_of_cmp (congrFun h2 i)⟩

/-- The block of the norm's gradient is the reference's. -/
theorem df_eq (hpre : Cert.Pre_Kernel10Ideal_finite10 m) (c : Dev nD) (t : Fin cfg0.N) (r k : Fin 1024) (R : Fin 4096)
    (hR : (R : ℕ) = 1024 * t.val + r) :
    dfB m c t (ix2 r k) = val_main_v34 (F := Ideal) (m ((c.tc : Thread nD τ).loc main_arg0)) (m ((c.tc : Thread nD τ).loc main_arg1)) (m ((c.tc : Thread nD τ).loc main_arg2)) (ix2 R k) := by
  obtain ⟨f0, f1, f2⟩ := finite m hpre c
  have hk := kdx_eq 0 (fun j => m ((c.tc : Thread nD τ).loc main_arg1) (ix2 R j)) (fun j => m ((c.tc : Thread nD τ).loc main_arg2) (ix2 0 j))
    (fun j => m ((c.tc : Thread nD τ).loc main_arg0) (ix2 R j)) (fun j => f1 _) (fun j => f2 _) (fun j => f0 _) k
  rw [zero_add] at hk
  exact (pay6_at _ _ _ r k).trans ((kdx_congr k (fun j => x_at m c t r j R hR) (fun j => g_at m c t j)
    (fun j => d_at m c t r j R hR)).trans (hk.trans (ref_df _ _ _ R k).symm))

/-- The norm's gradient after the run is the reference's. -/
theorem final_df (hpre : Cert.Pre_Kernel10Ideal_finite10 m) (c : Dev nD) : (dats m 0 c).arrAt 4 (cfgs 0).N
    = val_main_v38 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have h0 : (y 0 : ℕ) < 1024 := (y 0).isLt
  have ht : t.val < 4 := lt_of_lt_of_eq t.isLt N_0
  have h := ref_df16 (m ((c.tc : Thread nD τ).loc main_arg0)) (m ((c.tc : Thread nD τ).loc main_arg1)) (m ((c.tc : Thread nD τ).loc main_arg2)) ⟨1024 * t.val + (y 0 : ℕ), by omega⟩ (y 1)
  have hr := (congrFun (out4_eq m c t) (ix2 (y 0) (y 1))).trans
    ((df_eq m hpre c t (y 0) (y 1) ⟨1024 * t.val + (y 0 : ℕ), by omega⟩ rfl).trans h.symm)
  blk_simp
  rw [after0_4]
  refine Eq.trans (congrArg _ ?_) (hr.trans (congrArg _ ?_))
  · blk_ext
  · blk_point [idx t]

/-- The gradient of the mixed rows after the run is the reference's. -/
theorem final_dh (hpre : Cert.Pre_Kernel10Ideal_finite10 m) (c : Dev nD) : (dats m 0 c).arrAt 6 (cfgs 0).N
    = val_main_v39 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  have h0 : (y 1 : ℕ) < 1024 := (y 1).isLt
  have ht : t.val < 4 := lt_of_lt_of_eq t.isLt N_0
  have h := ref_dh (m ((c.tc : Thread nD τ).loc main_arg0)) (m ((c.tc : Thread nD τ).loc main_arg1)) (m ((c.tc : Thread nD τ).loc main_arg2)) (m ((c.tc : Thread nD τ).loc main_arg3)) ⟨1024 * t.val + (y 1 : ℕ), by omega⟩ (y 2)
  have hr := (dotE_congr (fun j => df_eq m hpre c t (y 1) j ⟨1024 * t.val + (y 1 : ℕ), by omega⟩ rfl)
    (fun j => w_at m c t (y 2) j)).trans h.symm
  have ho := (out6_eq m c t y).trans hr
  blk_simp
  rw [after0_6]
  refine ho.trans (congrArg _ ?_)
  blk_point [idx t]

/-- A block's part of the scale's gradient, over the arguments. -/
theorem dg_at (c : Dev nD) (t : Fin cfg0.N) (s : ℕ) (hs4 : s < 4) (hs : s = t.val) (k : Fin 1024) :
    k0_pay5 (iblk m c 1 t) (iblk m c 0 t) (ix2 0 k)
      = dotE (fun r : Fin 1024 => nxE (fun j => m ((c.tc : Thread nD τ).loc main_arg1) (ix2 (⟨s * 1024 + r.val, by omega⟩ : Fin 4096) j)) k)
          (fun r => m ((c.tc : Thread nD τ).loc main_arg0) (ix2 (⟨s * 1024 + r.val, by omega⟩ : Fin 4096) k)) := by
  have hR : ∀ r : Fin 1024, s * 1024 + r.val = 1024 * t.val + r.val := fun r => by omega
  exact (pay5_at _ _ k).trans (Eq.trans (dotE_congr (fun r => d_at m c t r k ⟨s * 1024 + r.val, by omega⟩ (hR r))
    (fun r => nxE_congr k fun j => x_at m c t r j ⟨s * 1024 + r.val, by omega⟩ (hR r))) (dotE_comm _ _))

/-- The scale's gradient after the last point. -/
theorem dg_total (c : Dev nD) (t0 t1 t2 t : Fin cfg0.N) (h0 : t0.val = 0) (h1 : t1.val = 1) (h2 : t2.val = 2) (h3 : t.val = 3) (k : Fin 1024) :
    (outsAt0 m c t.val t.isLt).2.1 (ix2 0 k) = val_main_v18 (F := Ideal) (m ((c.tc : Thread nD τ).loc main_arg0)) (m ((c.tc : Thread nD τ).loc main_arg1)) (ix2 0 k) := by
  rw [ref_dg, dotE_blocks, out5_B m c t (by omega) t2.val t2.isLt (by omega),
    out5_B m c t2 (by omega) t1.val t1.isLt (by omega), out5_B m c t1 (by omega) t0.val t0.isLt (by omega),
    out5_A m c t0 (by omega), dg_at m c t0 0 (by omega) (by omega) k, dg_at m c t1 1 (by omega) (by omega) k,
    dg_at m c t2 2 (by omega) (by omega) k, dg_at m c t 3 (by omega) (by omega) k]

/-- The scale's gradient after the run is the reference's. -/
theorem final_dg (c : Dev nD) : (dats m 0 c).arrAt 5 (cfgs 0).N = val_main_v18 (F := Ideal) (m ((c.tc : Thread nD τ).loc main_arg0)) (m ((c.tc : Thread nD τ).loc main_arg1)) := by
  refine (dats m 0 c).arrAt_eq_of_covers 5 _ (by decide +kernel) fun t hf y => ?_
  have hN : cfg0.N = 4 := N_0
  have ht : t.val < 4 := lt_of_lt_of_eq t.isLt N_0
  have h3 := (flush0_5 t).mp hf
  have h := dg_total m c ⟨0, by rw [hN]; decide⟩ ⟨1, by rw [hN]; decide⟩ ⟨2, by rw [hN]; decide⟩ t rfl rfl rfl (by omega) (y 1)
  blk_simp
  rw [after0_5]
  refine Eq.trans (congrArg _ ?_) (h.trans (congrArg _ ?_))
  · blk_ext
  · blk_point [idx t]

/-- The kernel and the reference leave the same gradients. -/
theorem algebraic : Cert.algebraic_Kernel10Ideal_Reference10Ideal_pre_finite10 := by
  pair_intro
  · run_from Cert.Kernel10Ideal.Gen.run_main m g
  · refine (θ_run Cert.Reference10Ideal.defs _ _).mono (fun r h c => ?_) (Cert.Reference10Ideal.Value.run m' g')
    have hc := h c
    obtain ⟨a0, a1, a2, a3⟩ := hagree c
    refine ⟨(hc.1.trans (val_main_v38_eq _ _ _)).trans (Eq.trans ?_ (final_df m hpre c).symm),
      (hc.2.1.trans (val_main_v18_eq _ _)).trans (Eq.trans ?_ (final_dg m c).symm),
      (hc.2.2.1.trans (val_main_v39_eq _ _ _ _)).trans (Eq.trans ?_ (final_dh m hpre c).symm), hc.2.2.2⟩
    · rw [a0, a1, a2]
    · rw [a0, a1]
    · rw [a0, a1, a2, a3]

/-- The reference runs to its end, keeps its arguments, and leaves every semaphore counter at zero. -/
theorem frame_ref : Cert.quiescent_Reference10Ideal := by
  intro m g _
  exact (θ_run Cert.Reference10Ideal.defs _ _).mono
    (fun r h => ⟨fun c => (h c).2.2.2, sem_eq_zero_of_no_sems (by decide) r.2⟩) (Cert.Reference10Ideal.Value.run m g)

end Cert.Kernel10Ideal.MixOutGrad

end
-- ==== Proof.FfnOut.lean ====
/- The output half of the second feed-forward block with the loss (`ffn2_out_fwd`): the down product as four products of column
   blocks, the row norm, the residual, the loss' gradient, and the loss summed over four blocks of tokens. The reference takes one
   product, the loss over all tokens, and its derivative. -/
module

public import proofs.«01_k».proof.Proof.Gen.Kernel11Ideal.Value
public import proofs.«01_k».proof.Proof.Gen.Reference11Ideal.Read
public import proofs.«01_k».proof.Proof.Norm
public import proofs.«01_k».proof.Proof.RmsGrad
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.FfnOut

open Cert.Kernel11Ideal Cert.Kernel11Ideal.Gen Cert.Norm

variable (m : (ℓ : Loc nD τ sig) → Buf (Elt Ideal) ℓ)

/-! The numbers. -/

/-- One half. -/
theorem c_half : Ideal.ofBits .f32 0x3F000000#32 = ((1 / 2 : ℝ) : EReal) := by
  simp [Ideal.ofBits, Ideal.ieee, -EReal.coe_mul]; norm_num

/-- One. -/
theorem c_one : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

/-- Two. -/
theorem c_two : Ideal.ofBits .f32 0x40000000#32 = ((2 : ℝ) : EReal) := by
  simp [Ideal.ofBits, Ideal.ieee, -EReal.coe_mul]; norm_num

/-- The inverse of the row length. -/
theorem c_inv : Ideal.ofBits .f32 0x3A800000#32 = ((1 / 1024 : ℝ) : EReal) := by
  simp [Ideal.ofBits, Ideal.ieee, -EReal.coe_mul]; norm_num

/-- The derivative rules' factors of the loss' gradient make the inverse of the row length. -/
theorem factor (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have h1024 : (1024 : ℝ) ≠ 0 := by norm_num
  rw [c_one, mul_one, c_half, c1024, Ideal.div_coe h1024, c_two, c_inv, ← EReal.coe_mul, ← mul_assoc, ← EReal.coe_mul, mul_comm]
  congr 2
  norm_num

/-- The difference of the block's output and the target. -/
def errE (x y : EReal) (f g : Fin 1024 → EReal) (k : Fin 1024) : EReal := x + Ideal.ofBits .f32 0x3F000000#32 * xnE f g k - y

/-- Equal arguments have equal differences. -/
theorem errE_congr {x x' y y' : EReal} {f f' g g' : Fin 1024 → EReal} (k : Fin 1024) (hx : x = x') (hy : y = y') (hf : ∀ j, f j = f' j)
    (hg : ∀ j, g j = g' j) : errE x y f g k = errE x' y' f' g' k := by
  rw [hx, hy, funext hf, funext hg]

/-- The mean square of a row. -/
def meanE (e : Fin 1024 → EReal) : EReal := Ideal.div (∑ j : Fin 1024, e j * e j) (Ideal.ofBits .f32 0x44800000#32)

/-- Half the sum of the rows' mean squares. -/
def lossE {n : ℕ} (e : Fin n → Fin 1024 → EReal) : EReal := Ideal.ofBits .f32 0x3F000000#32 * ∑ r : Fin n, meanE (e r)

/-- Equal rows have equal losses. -/
theorem lossE_congr {n : ℕ} {e e' : Fin n → Fin 1024 → EReal} (h : ∀ r j, e r j = e' r j) : lossE e = lossE e' := by
  rw [funext fun r => funext (h r)]

/-- One half times a sum. -/
theorem half_add (a b : EReal) : Ideal.ofBits .f32 0x3F000000#32 * (a + b)
    = Ideal.ofBits .f32 0x3F000000#32 * a + Ideal.ofBits .f32 0x3F000000#32 * b := by
  rw [c_half]
  exact EReal.left_distrib_of_nonneg_of_ne_top (by exact_mod_cast (by norm_num : (0 : ℝ) ≤ 1 / 2)) (EReal.coe_ne_top _) a b

/-- The loss over 4096 tokens, block by block. -/
theorem lossE_blocks (e : Fin 4096 → Fin 1024 → EReal) : lossE e
    = addE (addE (addE (lossE (fun r : Fin 1024 => e ⟨0 * 1024 + r.val, by omega⟩)) (lossE (fun r : Fin 1024 => e ⟨1 * 1024 + r.val, by omega⟩)))
        (lossE (fun r : Fin 1024 => e ⟨2 * 1024 + r.val, by omega⟩))) (lossE (fun r : Fin 1024 => e ⟨3 * 1024 + r.val, by omega⟩)) := by
  have h := Fin.sum_mul_add_fin 4 1024 (fun l : Fin 4096 => meanE (e l))
  rw [Fin.sum_univ_four] at h
  unfold lossE addE
  rw [← half_add, ← half_add, ← half_add]
  exact congrArg _ h.symm

/-- A product over the 2816 columns, block by block. -/
theorem dotE_quarters (a b : Fin 2816 → EReal) : dotE a b
    = addE (addE (addE (dotE (fun r : Fin 704 => a ⟨0 * 704 + r.val, by omega⟩) (fun r => b ⟨0 * 704 + r.val, by omega⟩))
        (dotE (fun r : Fin 704 => a ⟨1 * 704 + r.val, by omega⟩) (fun r => b ⟨1 * 704 + r.val, by omega⟩)))
        (dotE (fun r : Fin 704 => a ⟨2 * 704 + r.val, by omega⟩) (fun r => b ⟨2 * 704 + r.val, by omega⟩)))
        (dotE (fun r : Fin 704 => a ⟨3 * 704 + r.val, by omega⟩) (fun r => b ⟨3 * 704 + r.val, by omega⟩)) := by
  have h := Fin.sum_mul_add_fin 4 704 (fun l : Fin 2816 => a l * b l)
  rw [Fin.sum_univ_four] at h
  exact h.symm

/-! The reference, entry by entry. -/

section
open Cert.Reference11Ideal Cert.Reference11Ideal.Read

/-- The reference's down product. -/
theorem ref_f (x0 : FVec Ideal Cert.Reference11Ideal.S4x4096x704 .bf16) (x1 : FVec Ideal Cert.Reference11Ideal.S2816x1024 .bf16)
    (r : Fin 4096) (k : Fin 1024) :
    val_main_v4 (F := Ideal) x0 x1 (ix2 r k)
      = dotE (fun l : Fin 2816 => x0 (ix3 ⟨l.val / 704, by omega⟩ r ⟨l.val % 704, by omega⟩)) (fun l => x1 (ix2 l k)) := by
  unfold dotE
  pointwise [val_main_v4, val_main_v3, val_main_v2, val_main_v1, val_main_v0]

/-- The reference's difference of output and target. -/
theorem ref_err (x0 : FVec Ideal Cert.Reference11Ideal.S4x4096x704 .bf16) (x1 : FVec Ideal Cert.Reference11Ideal.S2816x1024 .bf16)
    (x2 : FVec Ideal Cert.Reference11Ideal.S4096x1024 .f32) (x3 : FVec Ideal Cert.Reference11Ideal.S1x1024 .f32)
    (x4 : FVec Ideal Cert.Reference11Ideal.S4096x1024 .f32) (r : Fin 4096) (k : Fin 1024) :
    val_main_v20 (F := Ideal) x0 x1 x2 x3 x4 (ix2 r k)
      = errE (x2 (ix2 r k)) (x4 (ix2 r k)) (fun j => val_main_v4 (F := Ideal) x0 x1 (ix2 r j)) (fun j => x3 (ix2 0 j)) k := by
  unfold errE xnE
  pointwise [val_main_v20, val_main_v19, val_main_v18, val_main_v17, val_main_v16, val_main_v15, val_main_v14, val_main_v13,
    val_main_v12, val_main_v11, val_main_v10, val_main_v9, val_main_v8, val_main_v7, val_main_v6, val_main_v5,
    val_main_cst, val_main_cst_0, val_main_cst_1, val_main_cst_2]

/-- The reference's gradient of the loss. -/
theorem ref_dy (x0 : FVec Ideal Cert.Reference11Ideal.S4x4096x704 .bf16) (x1 : FVec Ideal Cert.Reference11Ideal.S2816x1024 .bf16)
    (x2 : FVec Ideal Cert.Reference11Ideal.S4096x1024 .f32) (x3 : FVec Ideal Cert.Reference11Ideal.S1x1024 .f32)
    (x4 : FVec Ideal Cert.Reference11Ideal.S4096x1024 .f32) (r : Fin 4096) (k : Fin 1024) :
    val_main_v34 (F := Ideal) x0 x1 x2 x3 x4 (ix2 r k)
      = val_main_v20 (F := Ideal) x0 x1 x2 x3 x4 (ix2 r k) * Ideal.ofBits .f32 0x3A800000#32 := by
  rw [← factor]
  pointwise [val_main_v34, val_main_v33, val_main_v32, val_main_v31, val_main_v30, val_main_v29, val_main_v23, val_main_v22,
    val_main_cst_3, val_main_cst_8, val_main_cst_9, val_main_cst_10]

/-- The reference's loss. -/
theorem ref_loss (x0 : FVec Ideal Cert.Reference11Ideal.S4x4096x704 .bf16) (x1 : FVec Ideal Cert.Reference11Ideal.S2816x1024 .bf16)
    (x2 : FVec Ideal Cert.Reference11Ideal.S4096x1024 .f32) (x3 : FVec Ideal Cert.Reference11Ideal.S1x1024 .f32)
    (x4 : FVec Ideal Cert.Reference11Ideal.S4096x1024 .f32) :
    val_main_v35 (F := Ideal) x0 x1 x2 x3 x4 (ix2 0 0)
      = lossE (fun (r : Fin 4096) j => val_main_v20 (F := Ideal) x0 x1 x2 x3 x4 (ix2 r j)) := by
  unfold lossE meanE
  pointwise [val_main_v35, val_main_v28, val_main_v27, val_main_v26, val_main_v25, val_main_v24, val_main_v21,
    val_main_cst_4, val_main_cst_5, val_main_cst_6, val_main_cst_7]

end

/-! What a point writes. -/

/-- A block's down product: the sum of the four column blocks' products. -/
def fE (A : Vec Ideal S4x1024x704 .bf16) (W : Vec Ideal S4x704x1024 .bf16) (r k : Fin 1024) : EReal :=
  addE (addE (addE (dotE (fun l : Fin 704 => A (ix3 0 r l)) (fun l => W (ix3 0 l k))) (dotE (fun l : Fin 704 => A (ix3 1 r l)) (fun l => W (ix3 1 l k))))
    (dotE (fun l : Fin 704 => A (ix3 2 r l)) (fun l => W (ix3 2 l k)))) (dotE (fun l : Fin 704 => A (ix3 3 r l)) (fun l => W (ix3 3 l k)))

/-- The kernel's down product of a block. -/
def fB (A : Vec Ideal S4x1024x704 .bf16) (W : Vec Ideal S4x704x1024 .bf16) : FVec Ideal S1024x1024 .f32 :=
  k0_pay5 (View.ld A (Rect.unit (s := S4x1024x704) ![0, 0, 0] S1x1024x704.size inb_S4x1024x704_S1x1024x704_0_0_0))
    (View.ld W (Rect.unit (s := S4x704x1024) ![0, 0, 0] S1x704x1024.size inb_S4x704x1024_S1x704x1024_0_0_0))
    (View.ld A (Rect.unit (s := S4x1024x704) ![1, 0, 0] S1x1024x704.size inb_S4x1024x704_S1x1024x704_1_0_0))
    (View.ld W (Rect.unit (s := S4x704x1024) ![1, 0, 0] S1x704x1024.size inb_S4x704x1024_S1x704x1024_1_0_0))
    (View.ld A (Rect.unit (s := S4x1024x704) ![2, 0, 0] S1x1024x704.size inb_S4x1024x704_S1x1024x704_2_0_0))
    (View.ld W (Rect.unit (s := S4x704x1024) ![2, 0, 0] S1x704x1024.size inb_S4x704x1024_S1x704x1024_2_0_0))
    (View.ld A (Rect.unit (s := S4x1024x704) ![3, 0, 0] S1x1024x704.size inb_S4x1024x704_S1x1024x704_3_0_0))
    (View.ld W (Rect.unit (s := S4x704x1024) ![3, 0, 0] S1x704x1024.size inb_S4x704x1024_S1x704x1024_3_0_0))

/-- The square of the down product. -/
def sqB (A : Vec Ideal S4x1024x704 .bf16) (W : Vec Ideal S4x704x1024 .bf16) : FVec Ideal S1024x1024 .f32 :=
  k0_pay6 (View.ld A (Rect.unit (s := S4x1024x704) ![0, 0, 0] S1x1024x704.size inb_S4x1024x704_S1x1024x704_0_0_0))
    (View.ld W (Rect.unit (s := S4x704x1024) ![0, 0, 0] S1x704x1024.size inb_S4x704x1024_S1x704x1024_0_0_0))
    (View.ld A (Rect.unit (s := S4x1024x704) ![1, 0, 0] S1x1024x704.size inb_S4x1024x704_S1x1024x704_1_0_0))
    (View.ld W (Rect.unit (s := S4x704x1024) ![1, 0, 0] S1x704x1024.size inb_S4x704x1024_S1x704x1024_1_0_0))
    (View.ld A (Rect.unit (s := S4x1024x704) ![2, 0, 0] S1x1024x704.size inb_S4x1024x704_S1x1024x704_2_0_0))
    (View.ld W (Rect.unit (s := S4x704x1024) ![2, 0, 0] S1x704x1024.size inb_S4x704x1024_S1x704x1024_2_0_0))
    (View.ld A (Rect.unit (s := S4x1024x704) ![3, 0, 0] S1x1024x704.size inb_S4x1024x704_S1x1024x704_3_0_0))
    (View.ld W (Rect.unit (s := S4x704x1024) ![3, 0, 0] S1x704x1024.size inb_S4x704x1024_S1x704x1024_3_0_0))

/-- The product payload at an entry. -/
theorem pay5_at (A0 : Vec Ideal S1x1024x704 .bf16) (W0 : Vec Ideal S1x704x1024 .bf16) (A1 : Vec Ideal S1x1024x704 .bf16)
    (W1 : Vec Ideal S1x704x1024 .bf16) (A2 : Vec Ideal S1x1024x704 .bf16) (W2 : Vec Ideal S1x704x1024 .bf16)
    (A3 : Vec Ideal S1x1024x704 .bf16) (W3 : Vec Ideal S1x704x1024 .bf16) (r k : Fin 1024) :
    k0_pay5 A0 W0 A1 W1 A2 W2 A3 W3 (ix2 r k)
      = addE (addE (addE (dotE (fun l : Fin 704 => A0 (ix3 0 r l)) (fun l => W0 (ix3 0 l k))) (dotE (fun l : Fin 704 => A1 (ix3 0 r l)) (fun l => W1 (ix3 0 l k))))
        (dotE (fun l : Fin 704 => A2 (ix3 0 r l)) (fun l => W2 (ix3 0 l k)))) (dotE (fun l : Fin 704 => A3 (ix3 0 r l)) (fun l => W3 (ix3 0 l k))) := by
  unfold addE dotE
  pointwise [k0_pay5]

/-- The kernel's down product at an entry. -/
theorem fB_at (A : Vec Ideal S4x1024x704 .bf16) (W : Vec Ideal S4x704x1024 .bf16) (r k : Fin 1024) : fB A W (ix2 r k) = fE A W r k := by
  refine (pay5_at _ _ _ _ _ _ _ _ r k).trans ?_
  unfold fE
  refine addE_congr (addE_congr (addE_congr (dotE_congr (fun l => ?_) fun l => ?_) (dotE_congr (fun l => ?_) fun l => ?_))
    (dotE_congr (fun l => ?_) fun l => ?_)) (dotE_congr (fun l => ?_) fun l => ?_) <;>
    (pointwise []; blk_ext)

/-- The square at an entry. -/
theorem sqB_at (A : Vec Ideal S4x1024x704 .bf16) (W : Vec Ideal S4x704x1024 .bf16) (j : S1024x1024.Idx) :
    sqB A W j = fB A W j * fB A W j := by
  unfold sqB fB
  pointwise [k0_pay6]

/-- The difference payload at an entry, over rows and their squares. -/
theorem pay1_at (F : FVec Ideal S1024x1024 .f32) (X : Vec Ideal S1024x1024 .f32) (g : Vec Ideal S1x1024 .f32) (Q : FVec Ideal S1024x1024 .f32)
    (T : Vec Ideal S1024x1024 .f32) (hQ : ∀ j, Q j = F j * F j) (r k : Fin 1024) :
    k0_pay1 F X g Q T (ix2 r k) = errE (X (ix2 r k)) (T (ix2 r k)) (fun j => F (ix2 r j)) (fun j => g (ix2 0 j)) k := by
  obtain rfl : Q = fun j => F j * F j := funext hQ
  unfold errE xnE
  pointwise [k0_pay1]

/-- The gradient payload. -/
theorem pay2_at (F : FVec Ideal S1024x1024 .f32) (X : Vec Ideal S1024x1024 .f32) (g : Vec Ideal S1x1024 .f32) (Q : FVec Ideal S1024x1024 .f32)
    (T : Vec Ideal S1024x1024 .f32) (j : S1024x1024.Idx) :
    k0_pay2 F X g Q T j = k0_pay1 F X g Q T j * Ideal.ofBits .f32 0x3A800000#32 := by
  pointwise [k0_pay2]

/-- The loss payload of a block. -/
theorem pay3_at (F : FVec Ideal S1024x1024 .f32) (X : Vec Ideal S1024x1024 .f32) (g : Vec Ideal S1x1024 .f32) (Q : FVec Ideal S1024x1024 .f32)
    (T : Vec Ideal S1024x1024 .f32) :
    k0_pay3 F X g Q T (ix2 0 0) = lossE (fun (r : Fin 1024) j => k0_pay1 F X g Q T (ix2 r j)) := by
  unfold lossE meanE
  pointwise [k0_pay3]

/-- A later block of tokens adds its loss. -/
theorem pay4_at (F : FVec Ideal S1024x1024 .f32) (X : Vec Ideal S1024x1024 .f32) (g : Vec Ideal S1x1024 .f32) (Q : FVec Ideal S1024x1024 .f32)
    (T : Vec Ideal S1024x1024 .f32) (acc : Vec Ideal S1x1 .f32) (j : S1x1.Idx) :
    k0_pay4 F X g Q T acc j = acc j + k0_pay3 F X g Q T j := by
  pointwise [k0_pay4]
  blk_ext

/-- The windows' block indices. -/
theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The block of differences at point `t`. -/
def errB (c : Dev nD) (t : Fin cfg0.N) : FVec Ideal S1024x1024 .f32 :=
  k0_pay1 (fB (iblk m c 0 t) (iblk m c 1 t)) (iblk m c 2 t) (iblk m c 3 t) (sqB (iblk m c 0 t) (iblk m c 1 t)) (iblk m c 4 t)

/-- The block's loss at point `t`. -/
def lossB (c : Dev nD) (t : Fin cfg0.N) : FVec Ideal S1x1 .f32 :=
  k0_pay3 (fB (iblk m c 0 t) (iblk m c 1 t)) (iblk m c 2 t) (iblk m c 3 t) (sqB (iblk m c 0 t) (iblk m c 1 t)) (iblk m c 4 t)

/-- The first output block is the down product. -/
theorem out5_eq (c : Dev nD) (t : Fin cfg0.N) : (outsAt0 m c t.val t.isLt).1 = fB (iblk m c 0 t) (iblk m c 1 t) := by
  have hN := lt_of_lt_of_eq t.isLt (show cfg0.N = 4 from N_0)
  unfold fB
  by_cases h : t.val % 4 = 0
  · rw [outsAt0_A m c t h (by omega)]
    frame_out
  · rw [outsAt0_B m c t h (by omega)]
    frame_out

/-- The second output block is the difference over the row length. -/
theorem out6_eq (c : Dev nD) (t : Fin cfg0.N) (j : S1024x1024.Idx) :
    (outsAt0 m c t.val t.isLt).2.1 j = errB m c t j * Ideal.ofBits .f32 0x3A800000#32 := by
  have hN := lt_of_lt_of_eq t.isLt (show cfg0.N = 4 from N_0)
  by_cases h : t.val % 4 = 0
  · rw [outsAt0_A m c t h (by omega)]
    frame_out
    exact pay2_at _ _ _ _ _ j
  · rw [outsAt0_B m c t h (by omega)]
    frame_out
    exact pay2_at _ _ _ _ _ j

/-- The first block's loss. -/
theorem out7_A (c : Dev nD) (t : Fin cfg0.N) (h : t.val % 4 = 0) (j : S1x1.Idx) : (outsAt0 m c t.val t.isLt).2.2 j = lossB m c t j := by
  have hN := lt_of_lt_of_eq t.isLt (show cfg0.N = 4 from N_0)
  rw [outsAt0_A m c t h (by omega)]
  frame_out
  rfl

/-- A later block adds its loss. -/
theorem out7_B (c : Dev nD) (t : Fin cfg0.N) (h : ¬ t.val % 4 = 0) (n : ℕ) (hn : n < cfg0.N) (e : n = t.val - 1) (j : S1x1.Idx) :
    (outsAt0 m c t.val t.isLt).2.2 j = addE ((outsAt0 m c n hn).2.2 j) (lossB m c t j) := by
  subst e
  rw [outsAt0_B m c t h (by omega)]
  frame_out
  rw [pay4_at]
  rfl

/-! The blocks of the arguments. -/

/-- The block of the activations at point `t`. -/
theorem h_at (c : Dev nD) (t : Fin cfg0.N) (e : Fin 4) (r : Fin 1024) (l : Fin 704) (R : Fin 4096) (hR : (R : ℕ) = 1024 * t.val + r) :
    (iblk m c 0 t : Vec Ideal S4x1024x704 .bf16) (ix3 e r l) = m ((c.tc : Thread nD τ).loc main_arg0) (ix3 e R l) := by
  blk_point [iblk, V, idx t]

/-- The weight's column blocks. -/
theorem w_at (c : Dev nD) (t : Fin cfg0.N) (e : Fin 4) (l : Fin 704) (k : Fin 1024) (L : Fin 2816) (hL : (L : ℕ) = e.val * 704 + l.val) :
    (iblk m c 1 t : Vec Ideal S4x704x1024 .bf16) (ix3 e l k) = m ((c.tc : Thread nD τ).loc main_arg1) (ix2 L k) := by
  blk_point [iblk, V, idx t]

/-- The block of the residual at point `t`. -/
theorem x_at (c : Dev nD) (t : Fin cfg0.N) (r : Fin 1024) (j : Fin 1024) (R : Fin 4096) (hR : (R : ℕ) = 1024 * t.val + r) :
    (iblk m c 2 t : Vec Ideal S1024x1024 .f32) (ix2 r j) = m ((c.tc : Thread nD τ).loc main_arg2) (ix2 R j) := by
  blk_point [iblk, V, idx t]

/-- The scale. -/
theorem g_at (c : Dev nD) (t : Fin cfg0.N) (j : Fin 1024) :
    (iblk m c 3 t : Vec Ideal S1x1024 .f32) (ix2 0 j) = m ((c.tc : Thread nD τ).loc main_arg3) (ix2 0 j) := by
  blk_point [iblk, V, idx t]

/-- The block of the target at point `t`. -/
theorem t_at (c : Dev nD) (t : Fin cfg0.N) (r : Fin 1024) (j : Fin 1024) (R : Fin 4096) (hR : (R : ℕ) = 1024 * t.val + r) :
    (iblk m c 4 t : Vec Ideal S1024x1024 .f32) (ix2 r j) = m ((c.tc : Thread nD τ).loc main_arg4) (ix2 R j) := by
  blk_point [iblk, V, idx t]

open Cert.Reference11Ideal.Read (val_main_v4 val_main_v20 val_main_v34 val_main_v35 val_main_v4_eq val_main_v34_eq val_main_v35_eq)

/-- The block's down product is the reference's. -/
theorem f_eq (c : Dev nD) (t : Fin cfg0.N) (r k : Fin 1024) (R : Fin 4096) (hR : (R : ℕ) = 1024 * t.val + r) :
    fB (iblk m c 0 t) (iblk m c 1 t) (ix2 r k) = val_main_v4 (F := Ideal) (m ((c.tc : Thread nD τ).loc main_arg0)) (m ((c.tc : Thread nD τ).loc main_arg1)) (ix2 R k) := by
  rw [fB_at, ref_f, dotE_quarters]
  unfold fE
  refine addE_congr (addE_congr (addE_congr (dotE_congr (fun l => ?_) fun l => ?_) (dotE_congr (fun l => ?_) fun l => ?_))
    (dotE_congr (fun l => ?_) fun l => ?_)) (dotE_congr (fun l => ?_) fun l => ?_)
  · have hl : l.val < 704 := l.isLt
    refine (h_at m c t 0 r l R hR).trans (congrArg _ ?_)
    congr 1 <;> apply Fin.ext <;> dsimp only <;> (try simp only [Fin.val_zero]) <;> omega
  · exact w_at m c t 0 l k _ rfl
  · have hl : l.val < 704 := l.isLt
    refine (h_at m c t 1 r l R hR).trans (congrArg _ ?_)
    congr 1 <;> apply Fin.ext
    · change 1 = (1 * 704 + l.val) / 704; omega
    · change l.val = (1 * 704 + l.val) % 704; omega
  · exact w_at m c t 1 l k _ rfl
  · have hl : l.val < 704 := l.isLt
    refine (h_at m c t 2 r l R hR).trans (congrArg _ ?_)
    congr 1 <;> apply Fin.ext
    · change 2 = (2 * 704 + l.val) / 704; omega
    · change l.val = (2 * 704 + l.val) % 704; omega
  · exact w_at m c t 2 l k _ rfl
  · have hl : l.val < 704 := l.isLt
    refine (h_at m c t 3 r l R hR).trans (congrArg _ ?_)
    congr 1 <;> apply Fin.ext
    · change 3 = (3 * 704 + l.val) / 704; omega
    · change l.val = (3 * 704 + l.val) % 704; omega
  · exact w_at m c t 3 l k _ rfl

/-- The block of differences is the reference's. -/
theorem err_eq (c : Dev nD) (t : Fin cfg0.N) (r k : Fin 1024) (R : Fin 4096) (hR : (R : ℕ) = 1024 * t.val + r) :
    errB m c t (ix2 r k) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 R k) :=
  (pay1_at _ _ _ _ _ (sqB_at _ _) r k).trans ((errE_congr k (x_at m c t r k R hR) (t_at m c t r k R hR)
    (fun j => f_eq m c t r j R hR) (fun j => g_at m c t j)).trans (ref_err _ _ _ _ _ R k).symm)

/-- The down product after the run is the reference's. -/
theorem final_f (c : Dev nD) : (dats m 0 c).arrAt 5 (cfgs 0).N = val_main_v4 (F := Ideal) (m ((c.tc : Thread nD τ).loc main_arg0)) (m ((c.tc : Thread nD τ).loc main_arg1)) := by
  refine (dats m 0 c).arrAt_eq_of_covers 5 _ (by decide +kernel) fun t hf y => ?_
  have h0 : (y 0 : ℕ) < 1024 := (y 0).isLt
  have ht : t.val < 4 := lt_of_lt_of_eq t.isLt N_0
  have hr := (congrFun (out5_eq m c t) (ix2 (y 0) (y 1))).trans (f_eq m c t (y 0) (y 1) ⟨1024 * t.val + (y 0 : ℕ), by omega⟩ rfl)
  blk_simp
  rw [after0_5]
  refine Eq.trans (congrArg _ ?_) (hr.trans (congrArg _ ?_))
  · blk_ext
  · blk_point [idx t]

/-- The loss' gradient after the run is the reference's. -/
theorem final_dy (c : Dev nD) : (dats m 0 c).arrAt 6 (cfgs 0).N = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have h0 : (y 0 : ℕ) < 1024 := (y 0).isLt
  have ht : t.val < 4 := lt_of_lt_of_eq t.isLt N_0
  have hr := (out6_eq m c t (ix2 (y 0) (y 1))).trans ((congrArg (fun e : EReal => e * Ideal.ofBits .f32 0x3A800000#32)
    (err_eq m c t (y 0) (y 1) ⟨1024 * t.val + (y 0 : ℕ), by omega⟩ rfl)).trans (ref_dy _ _ _ _ _ _ _).symm)
  blk_simp
  rw [after0_6]
  refine Eq.trans (congrArg _ ?_) (hr.trans (congrArg _ ?_))
  · blk_ext
  · blk_point [idx t]

/-- A block's loss, over the reference's differences. -/
theorem loss_at (c : Dev nD) (t : Fin cfg0.N) (s : ℕ) (hs4 : s < 4) (hs : s = t.val) :
    lossB m c t (ix2 0 0) = lossE (fun (r : Fin 1024) j => val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (⟨s * 1024 + r.val, by omega⟩ : Fin 4096) j)) := by
  have hR : ∀ r : Fin 1024, s * 1024 + r.val = 1024 * t.val + r.val := fun r => by omega
  exact (pay3_at _ _ _ _ _).trans (lossE_congr fun r j => err_eq m c t r j ⟨s * 1024 + r.val, by omega⟩ (hR r))

/-- The loss after the last point. -/
theorem loss_total (c : Dev nD) (t0 t1 t2 t : Fin cfg0.N) (h0 : t0.val = 0) (h1 : t1.val = 1) (h2 : t2.val = 2) (h3 : t.val = 3) :
    (outsAt0 m c t.val t.isLt).2.2 (ix2 0 0) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 0 0) := by
  rw [ref_loss, lossE_blocks, out7_B m c t (by omega) t2.val t2.isLt (by omega),
    out7_B m c t2 (by omega) t1.val t1.isLt (by omega), out7_B m c t1 (by omega) t0.val t0.isLt (by omega),
    out7_A m c t0 (by omega), loss_at m c t0 0 (by omega) (by omega), loss_at m c t1 1 (by omega) (by omega),
    loss_at m c t2 2 (by omega) (by omega), loss_at m c t 3 (by omega) (by omega)]

/-- The loss after the run is the reference's. -/
theorem final_loss (c : Dev nD) : (dats m 0 c).arrAt 7 (cfgs 0).N = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have hN : cfg0.N = 4 := N_0
  have ht : t.val < 4 := lt_of_lt_of_eq t.isLt N_0
  have h3 := (flush0_7 t).mp hf
  have h := loss_total m c ⟨0, by rw [hN]; decide⟩ ⟨1, by rw [hN]; decide⟩ ⟨2, by rw [hN]; decide⟩ t rfl rfl rfl (by omega)
  blk_simp
  rw [after0_7]
  refine Eq.trans (congrArg _ ?_) (h.trans (congrArg _ ?_))
  · blk_ext
  · blk_point [idx t]

/-- The kernel and the reference leave the same product, gradient and loss. -/
theorem algebraic : Cert.algebraic_Kernel11Ideal_Reference11Ideal := by
  pair_intro
  · run_from Cert.Kernel11Ideal.Gen.run_main m g
  · refine (θ_run Cert.Reference11Ideal.defs _ _).mono (fun r h c => ?_) (Cert.Reference11Ideal.Value.run m' g')
    have hc := h c
    obtain ⟨a0, a1, a2, a3, a4⟩ := hagree c
    refine ⟨(hc.1.trans (val_main_v4_eq _ _)).trans (Eq.trans ?_ (final_f m c).symm),
      (hc.2.1.trans (val_main_v34_eq _ _ _ _ _)).trans (Eq.trans ?_ (final_dy m c).symm),
      (hc.2.2.1.trans (val_main_v35_eq _ _ _ _ _)).trans (Eq.trans ?_ (final_loss m c).symm), hc.2.2.2⟩
    · rw [a0, a1]
    · rw [a0, a1, a2, a3, a4]
    · rw [a0, a1, a2, a3, a4]

/-- The reference runs to its end, keeps its arguments, and leaves every semaphore counter at zero. -/
theorem frame_ref : Cert.quiescent_Reference11Ideal := by
  intro m g _
  exact (θ_run Cert.Reference11Ideal.defs _ _).mono
    (fun r h => ⟨fun c => (h c).2.2.2, sem_eq_zero_of_no_sems (by decide) r.2⟩) (Cert.Reference11Ideal.Value.run m g)

end Cert.Kernel11Ideal.FfnOut

end
-- ==== Proof.MixIn.lean ====
/- The forward call of the mixer's first half (`mix_in_fwd`): row norm and the combined projection, tile by tile; the
   reference computes them on whole arrays. -/
module

public import proofs.«01_k».proof.Proof.Gen.Kernel12Ideal.Value
public import proofs.«01_k».proof.Proof.Gen.Reference12Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.MixIn

open Cert.Kernel12Ideal Cert.Kernel12Ideal.Gen Cert.Norm

variable (m : (ℓ : Loc nD τ sig) → Buf (Elt Ideal) ℓ)

/-! The reference, entry by entry. -/

section
open Cert.Reference12Ideal Cert.Reference12Ideal.Read

/-- The normed row of the reference. -/
theorem ref_xn (x0 : FVec Ideal Cert.Reference12Ideal.S4096x1024 .f32) (x1 : FVec Ideal Cert.Reference12Ideal.S1x1024 .f32)
    (r : Fin 4096) (k : Fin 1024) :
    val_main_v11 (F := Ideal) x0 x1 (ix2 r k) = xnE (fun j => x0 (ix2 r j)) (fun j => x1 (ix2 0 j)) k := by
  unfold xnE
  pointwise [val_main_v11, val_main_v10, val_main_v9, val_main_v8, val_main_v7, val_main_v6, val_main_v5, val_main_v4, val_main_v3,
    val_main_v2, val_main_v1, val_main_v0, val_main_cst, val_main_cst_0, val_main_cst_1]

/-- The reference's product at an entry. -/
theorem ref_p (x0 : FVec Ideal Cert.Reference12Ideal.S4096x1024 .f32) (x1 : FVec Ideal Cert.Reference12Ideal.S1x1024 .f32)
    (x2 : FVec Ideal Cert.Reference12Ideal.S1024x2816 .bf16) (r : Fin 4096) (f : Fin 2816) :
    val_main_v13 (F := Ideal) x0 x1 x2 (ix2 r f)
      = guE (fun j => x0 (ix2 r j)) (fun j => x1 (ix2 0 j)) (fun k => x2 (ix2 k f)) := by
  have h := ref_xn x0 x1 r
  unfold guE
  simp only [← h]
  pointwise [val_main_v13, val_main_v12]

/-- The reference's first result. -/
theorem ref_xnb (x0 : FVec Ideal Cert.Reference12Ideal.S4096x1024 .f32) (x1 : FVec Ideal Cert.Reference12Ideal.S1x1024 .f32)
    (i : Cert.Reference12Ideal.S4096x1024.Idx) :
    val_main_v14 (F := Ideal) x0 x1 i = xnE (fun j => x0 (ix2 (i 0) j)) (fun j => x1 (ix2 0 j)) (i 1) := by
  refine Eq.trans ?_ (ref_xn x0 x1 (i 0) (i 1))
  pointwise [val_main_v14]
  blk_ext

/-- The reference's second result: the columns of the recurrence. -/
theorem ref_ps (x0 : FVec Ideal Cert.Reference12Ideal.S4096x1024 .f32) (x1 : FVec Ideal Cert.Reference12Ideal.S1x1024 .f32)
    (x2 : FVec Ideal Cert.Reference12Ideal.S1024x2816 .bf16) (i : Cert.Reference12Ideal.S4096x1792.Idx)
    (f : Fin 2816) (hf : (f : ℕ) = (i 1 : ℕ)) :
    val_main_v15 (F := Ideal) x0 x1 x2 i
      = guE (fun j => x0 (ix2 (i 0) j)) (fun j => x1 (ix2 0 j)) (fun k => x2 (ix2 k f)) := by
  refine Eq.trans ?_ (ref_p x0 x1 x2 (i 0) f)
  pointwise [val_main_v15]
  blk_ext

/-- The reference's third result: the columns of the convolution. -/
theorem ref_pc (x0 : FVec Ideal Cert.Reference12Ideal.S4096x1024 .f32) (x1 : FVec Ideal Cert.Reference12Ideal.S1x1024 .f32)
    (x2 : FVec Ideal Cert.Reference12Ideal.S1024x2816 .bf16) (i : Cert.Reference12Ideal.S4096x1024.Idx)
    (f : Fin 2816) (hf : (f : ℕ) = 1792 + (i 1 : ℕ)) :
    val_main_v16 (F := Ideal) x0 x1 x2 i
      = guE (fun j => x0 (ix2 (i 0) j)) (fun j => x1 (ix2 0 j)) (fun k => x2 (ix2 k f)) := by
  refine Eq.trans ?_ (ref_p x0 x1 x2 (i 0) f)
  pointwise [val_main_v16]
  blk_ext

end

/-! What a point writes. -/

/-- The kernel's normed row. -/
theorem pay1_at (X : Vec Ideal S512x1024 .f32) (g : Vec Ideal S1x1024 .f32) (r : Fin 512) (k : Fin 1024) :
    k0_pay1 X g (ix2 r k) = xnE (fun j => X (ix2 r j)) (fun j => g (ix2 0 j)) k := by
  unfold xnE
  pointwise [k0_pay1]

/-- The kernel's product with the rows of the recurrence. -/
theorem pay2_at (X : Vec Ideal S512x1024 .f32) (g : Vec Ideal S1x1024 .f32) (W : Vec Ideal S1792x1024 .bf16) (y : S512x1792.Idx) :
    k0_pay2 X g W y = guE (fun j => X (ix2 (y 0) j)) (fun j => g (ix2 0 j)) (fun k => W (ix2 (y 1) k)) := by
  have h := pay1_at X g (y 0)
  unfold guE
  simp only [← h]
  pointwise [k0_pay2]

/-- The kernel's product with the rows of the convolution. -/
theorem pay3_at (X : Vec Ideal S512x1024 .f32) (g : Vec Ideal S1x1024 .f32) (W : Vec Ideal S1024x1024 .bf16) (y : S512x1024.Idx) :
    k0_pay3 X g W y = guE (fun j => X (ix2 (y 0) j)) (fun j => g (ix2 0 j)) (fun k => W (ix2 (y 1) k)) := by
  have h := pay1_at X g (y 0)
  unfold guE
  simp only [← h]
  pointwise [k0_pay3]

/-- The first output block. -/
theorem out3 (X : Vec Ideal S512x1024 .f32) (g : Vec Ideal S1x1024 .f32) (W : Vec Ideal S2816x1024 .bf16) (y : S512x1024.Idx) :
    out0_3 X g W y = xnE (fun j => X (ix2 (y 0) j)) (fun j => g (ix2 0 j)) (y 1) := by
  frame_out
  refine (congrArg _ ?_).trans (pay1_at X g (y 0) (y 1))
  blk_ext

/-- The second output block. -/
theorem out4 (X : Vec Ideal S512x1024 .f32) (g : Vec Ideal S1x1024 .f32) (W : Vec Ideal S2816x1024 .bf16) (y : S512x1792.Idx)
    (f : Fin 2816) (hf : (f : ℕ) = (y 1 : ℕ)) :
    out0_4 X g W y = guE (fun j => X (ix2 (y 0) j)) (fun j => g (ix2 0 j)) (fun k => W (ix2 f k)) := by
  frame_out
  refine (pay2_at X g _ y).trans (guE_congr (fun _ => rfl) (fun _ => rfl) fun k => ?_)
  pointwise [r0_2]
  blk_ext

/-- The third output block. -/
theorem out5 (X : Vec Ideal S512x1024 .f32) (g : Vec Ideal S1x1024 .f32) (W : Vec Ideal S2816x1024 .bf16) (y : S512x1024.Idx)
    (f : Fin 2816) (hf : (f : ℕ) = 1792 + (y 1 : ℕ)) :
    out0_5 X g W y = guE (fun j => X (ix2 (y 0) j)) (fun j => g (ix2 0 j)) (fun k => W (ix2 f k)) := by
  frame_out
  refine (pay3_at X g _ y).trans (guE_congr (fun _ => rfl) (fun _ => rfl) fun k => ?_)
  pointwise [r0_4]
  blk_ext

/-- The windows' block indices. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The block of tokens at point `t`. -/
theorem x_at (c : Dev nD) (t : Fin cfg0.N) (r : Fin 512) (j : Fin 1024) (R : Fin 4096) (hR : (R : ℕ) = 512 * t.val + r) :
    (iblk m c 0 t : Vec Ideal S512x1024 .f32) (ix2 r j) = m ((c.tc : Thread nD τ).loc main_arg0) (ix2 R j) := by
  blk_point [iblk, V, idx t]

/-- The scale's block at point `t`: the whole scale. -/
theorem g_at (c : Dev nD) (t : Fin cfg0.N) (j : Fin 1024) :
    (iblk m c 1 t : Vec Ideal S1x1024 .f32) (ix2 0 j) = m ((c.tc : Thread nD τ).loc main_arg1) (ix2 0 j) := by
  blk_point [iblk, V, idx t]

/-- The weight's block at point `t`: the whole weight, transposed. -/
theorem w_at (c : Dev nD) (t : Fin cfg0.N) (f : Fin 2816) (k : Fin 1024) :
    (iblk m c 2 t : Vec Ideal S2816x1024 .bf16) (ix2 f k) = m ((c.tc : Thread nD τ).loc main_arg2) (ix2 k f) := by
  blk_point [iblk, V, idx t]

open Cert.Reference12Ideal.Read (val_main_v14 val_main_v15 val_main_v16)

/-- The first result array after the run is the reference's. -/
theorem final_xn (c : Dev nD) : (dats m 0 c).arrAt 3 (cfgs 0).N
    = val_main_v14 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3, out3]
  refine Eq.trans ?_ (ref_xnb _ _ _).symm
  refine (xnE_congr (y 1) (fun j => x_at m c t _ j _ ?_) (fun j => g_at m c t j)).trans (congrArg (xnE _ _) (Fin.ext ?_))
  · blk_simp [idx t] <;> omega
  · blk_simp [idx t]

/-- The second result array after the run is the reference's. -/
theorem final_ps (c : Dev nD) : (dats m 0 c).arrAt 4 (cfgs 0).N
    = val_main_v15 (F := Ideal) (m ((c.tc : Thread nD τ).loc main_arg0)) (m ((c.tc : Thread nD τ).loc main_arg1))
        (m ((c.tc : Thread nD τ).loc main_arg2)) := by
  refine (dats m 0 c).arrAt_eq_of_covers 4 _ (by decide +kernel) fun t hf y => ?_
  have h1 : (y 1 : ℕ) < 1792 := (y 1).isLt
  blk_simp
  rw [after0_4, out4 _ _ _ _ ⟨(y 1 : ℕ), by omega⟩ rfl]
  refine Eq.trans ?_ (ref_ps _ _ _ _ ⟨(y 1 : ℕ), by omega⟩ ?_).symm
  · refine guE_congr (fun j => x_at m c t _ j _ ?_) (fun j => g_at m c t j) (fun k => w_at m c t _ k)
    blk_simp [idx t] <;> omega
  · blk_simp [idx t]

/-- The third result array after the run is the reference's. -/
theorem final_pc (c : Dev nD) : (dats m 0 c).arrAt 5 (cfgs 0).N
    = val_main_v16 (F := Ideal) (m ((c.tc : Thread nD τ).loc main_arg0)) (m ((c.tc : Thread nD τ).loc main_arg1))
        (m ((c.tc : Thread nD τ).loc main_arg2)) := by
  refine (dats m 0 c).arrAt_eq_of_covers 5 _ (by decide +kernel) fun t hf y => ?_
  have h1 : (y 1 : ℕ) < 1024 := (y 1).isLt
  blk_simp
  rw [after0_5, out5 _ _ _ _ ⟨1792 + (y 1 : ℕ), by omega⟩ rfl]
  refine Eq.trans ?_ (ref_pc _ _ _ _ ⟨1792 + (y 1 : ℕ), by omega⟩ ?_).symm
  · refine guE_congr (fun j => x_at m c t _ j _ ?_) (fun j => g_at m c t j) (fun k => w_at m c t _ k)
    blk_simp [idx t] <;> omega
  · blk_simp [idx t]

/-- The kernel and the reference give equal results on the same arguments. -/
theorem algebraic : Cert.algebraic_Kernel12Ideal_Reference12Ideal := by
  pair_intro
  · run_from Cert.Kernel12Ideal.Gen.run_main m g
  · run_from Cert.Reference12Ideal.Value.run m' g'
    · exact (final_xn m c).symm
    · exact (final_ps m c).symm
    · exact (final_pc m c).symm

/-- The reference runs to its end, keeps its arguments, and leaves every semaphore counter at zero. -/
theorem frame_ref : Cert.quiescent_Reference12Ideal := by
  intro m g _
  exact (θ_run Cert.Reference12Ideal.defs _ _).mono
    (fun r h => ⟨fun c => (h c).2.2.2, sem_eq_zero_of_no_sems (by decide) r.2⟩) (Cert.Reference12Ideal.Value.run m g)

end Cert.Kernel12Ideal.MixIn

end
-- ==== Proof.MixOut.lean ====
/- The forward call of the mixer's second half (`mix_out_fwd`): the output projection, its row norm and the residual, tile by
   tile; the reference computes them on whole arrays. -/
module

public import proofs.«01_k».proof.Proof.Gen.Kernel13Ideal.Value
public import proofs.«01_k».proof.Proof.Gen.Reference13Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.MixOut

open Cert.Kernel13Ideal Cert.Kernel13Ideal.Gen Cert.Norm

variable (m : (ℓ : Loc nD τ sig) → Buf (Elt Ideal) ℓ)

/-! The reference, entry by entry. -/

section
open Cert.Reference13Ideal Cert.Reference13Ideal.Read

/-- The reference's product at an entry. -/
theorem ref_f (x0 : FVec Ideal Cert.Reference13Ideal.S4096x1024 .bf16) (x1 : FVec Ideal Cert.Reference13Ideal.S1024x1024 .bf16)
    (r : Fin 4096) (k : Fin 1024) :
    val_main_v2 (F := Ideal) x0 x1 (ix2 r k) = dotE (fun l => x0 (ix2 r l)) (fun l => x1 (ix2 l k)) := by
  unfold dotE
  pointwise [val_main_v2, val_main_v1, val_main_v0]

/-- The reference's second result: the residual plus the normed product. -/
theorem ref_o (x0 : FVec Ideal Cert.Reference13Ideal.S4096x1024 .bf16) (x1 : FVec Ideal Cert.Reference13Ideal.S1024x1024 .bf16)
    (x2 : FVec Ideal Cert.Reference13Ideal.S4096x1024 .f32) (x3 : FVec Ideal Cert.Reference13Ideal.S1x1024 .f32)
    (r : Fin 4096) (k : Fin 1024) :
    val_main_v15 (F := Ideal) x0 x1 x2 x3 (ix2 r k)
      = resE (x2 (ix2 r k)) (fun j => dotE (fun l => x0 (ix2 r l)) (fun l => x1 (ix2 l j))) (fun j => x3 (ix2 0 j)) k := by
  have h := ref_f x0 x1 r
  unfold resE xnE
  simp only [← h]
  pointwise [val_main_v15, val_main_v14, val_main_v13, val_main_v12, val_main_v11, val_main_v10, val_main_v9, val_main_v8,
    val_main_v7, val_main_v6, val_main_v5, val_main_v4, val_main_v3, val_main_cst, val_main_cst_0, val_main_cst_1]

end

/-! What a point writes. -/

/-- The kernel's product. -/
theorem pay1_at (H : Vec Ideal S1x1024x1024 .bf16) (W : Vec Ideal S1x1024x1024 .bf16) (r : Fin 1024) (k : Fin 1024) :
    k0_pay1 H W (ix2 r k) = dotE (fun l => H (ix3 0 r l)) (fun l => W (ix3 0 l k)) := by
  unfold dotE
  pointwise [k0_pay1]

/-- The kernel's residual plus normed product. -/
theorem pay2_at (H : Vec Ideal S1x1024x1024 .bf16) (W : Vec Ideal S1x1024x1024 .bf16) (X : Vec Ideal S1024x1024 .f32)
    (g : Vec Ideal S1x1024 .f32) (r : Fin 1024) (k : Fin 1024) :
    k0_pay2 H W X g (ix2 r k)
      = resE (X (ix2 r k)) (fun j => dotE (fun l => H (ix3 0 r l)) (fun l => W (ix3 0 l j))) (fun j => g (ix2 0 j)) k := by
  have h := pay1_at H W r
  unfold resE xnE
  simp only [← h]
  pointwise [k0_pay2]

/-- The first output block. -/
theorem out4 (H : Vec Ideal S1x1024x1024 .bf16) (W : Vec Ideal S1x1024x1024 .bf16) (X : Vec Ideal S1024x1024 .f32)
    (g : Vec Ideal S1x1024 .f32) (y : S1024x1024.Idx) :
    out0_4 H W X g y = dotE (fun l => H (ix3 0 (y 0) l)) (fun l => W (ix3 0 l (y 1))) := by
  frame_out
  refine (congrArg _ ?_).trans (pay1_at H W (y 0) (y 1))
  blk_ext

/-- The second output block. -/
theorem out5 (H : Vec Ideal S1x1024x1024 .bf16) (W : Vec Ideal S1x1024x1024 .bf16) (X : Vec Ideal S1024x1024 .f32)
    (g : Vec Ideal S1x1024 .f32) (y : S1024x1024.Idx) :
    out0_5 H W X g y
      = resE (X (ix2 (y 0) (y 1))) (fun j => dotE (fun l => H (ix3 0 (y 0) l)) (fun l => W (ix3 0 l j))) (fun j => g (ix2 0 j)) (y 1) := by
  frame_out
  refine (congrArg _ ?_).trans (pay2_at H W X g (y 0) (y 1))
  blk_ext

/-- The windows' block indices. -/
theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The block of the activations at point `t`. -/
theorem h_at (c : Dev nD) (t : Fin cfg0.N) (r : Fin 1024) (j : Fin 1024) (R : Fin 4096) (hR : (R : ℕ) = 1024 * t.val + r) :
    (iblk m c 0 t : Vec Ideal S1x1024x1024 .bf16) (ix3 0 r j) = m ((c.tc : Thread nD τ).loc main_arg0) (ix2 R j) := by
  blk_point [iblk, V, idx t]

/-- The weight's block at point `t`: the whole weight. -/
theorem w_at (c : Dev nD) (t : Fin cfg0.N) (l : Fin 1024) (k : Fin 1024) :
    (iblk m c 1 t : Vec Ideal S1x1024x1024 .bf16) (ix3 0 l k) = m ((c.tc : Thread nD τ).loc main_arg1) (ix2 l k) := by
  blk_point [iblk, V, idx t]

/-- The block of the residual at point `t`. -/
theorem x_at (c : Dev nD) (t : Fin cfg0.N) (r : Fin 1024) (j : Fin 1024) (R : Fin 4096) (hR : (R : ℕ) = 1024 * t.val + r) :
    (iblk m c 2 t : Vec Ideal S1024x1024 .f32) (ix2 r j) = m ((c.tc : Thread nD τ).loc main_arg2) (ix2 R j) := by
  blk_point [iblk, V, idx t]

/-- The scale's block at point `t`: the whole scale. -/
theorem g_at (c : Dev nD) (t : Fin cfg0.N) (j : Fin 1024) :
    (iblk m c 3 t : Vec Ideal S1x1024 .f32) (ix2 0 j) = m ((c.tc : Thread nD τ).loc main_arg3) (ix2 0 j) := by
  blk_point [iblk, V, idx t]

/-- The product's entry at point `t`, from the point's blocks. -/
theorem f_pt (c : Dev nD) (t : Fin cfg0.N) (r : Fin 1024) (R : Fin 4096) (hR : (R : ℕ) = 1024 * t.val + r) (k : Fin 1024) :
    dotE (fun l => (iblk m c 0 t : Vec Ideal S1x1024x1024 .bf16) (ix3 0 r l)) (fun l => (iblk m c 1 t : Vec Ideal S1x1024x1024 .bf16) (ix3 0 l k))
      = dotE (fun l => m ((c.tc : Thread nD τ).loc main_arg0) (ix2 R l)) (fun l => m ((c.tc : Thread nD τ).loc main_arg1) (ix2 l k)) :=
  dotE_congr (fun l => h_at m c t r l R hR) (fun l => w_at m c t l k)

open Cert.Reference13Ideal.Read (val_main_v2 val_main_v15)

/-- The first result array after the run is the reference's. -/
theorem final_f (c : Dev nD) : (dats m 0 c).arrAt 4 (cfgs 0).N
    = val_main_v2 (F := Ideal) (m ((c.tc : Thread nD τ).loc main_arg0)) (m ((c.tc : Thread nD τ).loc main_arg1)) := by
  refine (dats m 0 c).arrAt_eq_of_covers 4 _ (by decide +kernel) fun t hf y => ?_
  have h0 : (y 0 : ℕ) < 1024 := (y 0).isLt
  have ht : t.val < 4 := lt_of_lt_of_eq t.isLt N_0
  have h := ref_f (m ((c.tc : Thread nD τ).loc main_arg0)) (m ((c.tc : Thread nD τ).loc main_arg1)) ⟨1024 * t.val + (y 0 : ℕ), by omega⟩ (y 1)
  blk_simp
  rw [after0_4, out4]
  refine (f_pt m c t (y 0) ⟨1024 * t.val + (y 0 : ℕ), by omega⟩ rfl (y 1)).trans (h.symm.trans ?_)
  blk_point [idx t]

/-- The second result array after the run is the reference's. -/
theorem final_o (c : Dev nD) : (dats m 0 c).arrAt 5 (cfgs 0).N
    = val_main_v15 (F := Ideal) (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 5 _ (by decide +kernel) fun t hf y => ?_
  have h0 : (y 0 : ℕ) < 1024 := (y 0).isLt
  have ht : t.val < 4 := lt_of_lt_of_eq t.isLt N_0
  have h := ref_o (m ((c.tc : Thread nD τ).loc main_arg0)) (m ((c.tc : Thread nD τ).loc main_arg1))
    (m ((c.tc : Thread nD τ).loc main_arg2)) (m ((c.tc : Thread nD τ).loc main_arg3)) ⟨1024 * t.val + (y 0 : ℕ), by omega⟩ (y 1)
  blk_simp
  rw [after0_5, out5]
  refine (resE_congr (y 1) (x_at m c t (y 0) (y 1) ⟨1024 * t.val + (y 0 : ℕ), by omega⟩ rfl)
    (fun j => f_pt m c t (y 0) ⟨1024 * t.val + (y 0 : ℕ), by omega⟩ rfl j) (fun j => g_at m c t j)).trans (h.symm.trans ?_)
  blk_point [idx t]

/-- The kernel and the reference give equal results on the same arguments. -/
theorem algebraic : Cert.algebraic_Kernel13Ideal_Reference13Ideal := by
  pair_intro
  · run_from Cert.Kernel13Ideal.Gen.run_main m g
  · run_from Cert.Reference13Ideal.Value.run m' g'
    · exact (final_f m c).symm
    · exact (final_o m c).symm

/-- The reference runs to its end, keeps its arguments, and leaves every semaphore counter at zero. -/
theorem frame_ref : Cert.quiescent_Reference13Ideal := by
  intro m g _
  exact (θ_run Cert.Reference13Ideal.defs _ _).mono
    (fun r h => ⟨fun c => (h c).2.2, sem_eq_zero_of_no_sems (by decide) r.2⟩) (Cert.Reference13Ideal.Value.run m g)

end Cert.Kernel13Ideal.MixOut

end
-- ==== Proof.WdGrad1.lean ====
/- The gradient of the first feed-forward block's output weight (`ffn1_wd_grad`): the kernel sums four products over
   blocks of 1024 tokens in a scratch, the reference contracts all 4096 tokens at once. -/
module

public import proofs.«01_k».proof.Proof.Gen.Kernel14Ideal.Value
public import proofs.«01_k».proof.Proof.Gen.Reference14Ideal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.WdGrad1

open Cert.Kernel14Ideal Cert.Kernel14Ideal.Gen

variable (m : (ℓ : Loc nD τ sig) → Buf (Elt Ideal) ℓ)

/-- The first block's payload: the product of the two blocks, contracted over the tokens. -/
theorem hpay1 (x0 : Vec Ideal S1x1024x704 .bf16) (x1 : Vec Ideal S1x1024x1024 .bf16) (j : S704x1024.Idx) :
    k0_pay1 x0 x1 j = ∑ k : Fin 1024, x0 (ix3 0 k (j 0)) * x1 (ix3 0 k (j 1)) := by
  pointwise [k0_pay1]

/-- A later block's payload: what the scratch held plus the product. -/
theorem hpay2 (acc : Vec Ideal S704x1024 .f32) (x0 : Vec Ideal S1x1024x704 .bf16) (x1 : Vec Ideal S1x1024x1024 .bf16)
    (j : S704x1024.Idx) :
    k0_pay2 acc x0 x1 j = acc j + ∑ k : Fin 1024, x0 (ix3 0 k (j 0)) * x1 (ix3 0 k (j 1)) := by
  pointwise [k0_pay2]

/-- The stored block is the scratch. -/
theorem hpay3 (acc : Vec Ideal S704x1024 .f32) (j : S1x704x1024.Idx) :
    k0_pay3 acc j = acc (ix2 (j 1) (j 2)) := by
  pointwise [k0_pay3]

/-- The windows' block indices. -/
theorem idx : ∀ t : Fin cfg0.N, win0_0.index t = ![t.val / 4, t.val % 4, 0] ∧ win0_1.index t = ![0, t.val % 4, 0]
    ∧ win0_2.index t = ![t.val / 4, 0, 0] :=
  (by decide +kernel : ∀ t : Fin grid0.N, _)

/-- At the last point of a run the output block is the scratch, rounded. -/
theorem out_eq (c : Dev nD) (t : Fin cfg0.N) (h2 : t.val % 4 = 3) (y : S1x704x1024.Idx) :
    (outsAt0 m c t.val t.isLt).1 y = (outsAt0 m c t.val t.isLt).2 (ix2 (y 1) (y 2)) := by
  rw [outsAt0_C m c t (by omega) (by omega) h2]
  frame_out
  rw [hpay3]

/-- The reference at an index: one contraction over all tokens. -/
theorem ref_at (x0 : FVec Ideal Cert.Reference14Ideal.S4x4096x704 .bf16) (x1 : FVec Ideal Cert.Reference14Ideal.S4096x1024 .bf16)
    (i : Cert.Reference14Ideal.S4x704x1024.Idx) :
    Cert.Reference14Ideal.Read.val_main_v9 (F := Ideal) x0 x1 i
      = ∑ l : Fin 4096, x0 (ix3 (i 0) l (i 1)) * x1 (ix2 l (i 2)) := by
  pointwise [Cert.Reference14Ideal.Read.val_main_v9, Cert.Reference14Ideal.Read.val_main_v8, Cert.Reference14Ideal.Read.val_main_v7,
    Cert.Reference14Ideal.Read.val_main_v6, Cert.Reference14Ideal.Read.val_main_v5, Cert.Reference14Ideal.Read.val_main_v2,
    Cert.Reference14Ideal.Read.val_main_v1, Cert.Reference14Ideal.Read.val_main_v0]
  exact Finset.sum_congr rfl fun l _ => mul_comm (x1 _) (x0 _)

/-- The result array after the run is the reference's. -/
theorem final (c : Dev nD) : (dats m 0 c).arrAt 2 (cfgs 0).N
    = Cert.Reference14Ideal.Read.val_main_v9 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0) _
    (fun t h j => by rw [outsAt0_A m c t h (by omega) (by omega)]; frame_out; rw [hpay1, zero_add])
    (fun t h j => by
      by_cases h2 : t.val % 4 = 3
      · rw [outsAt0_C m c t h (by omega) h2]; frame_out; rw [hpay2, (Memref.isWhole_whole cc0_scratch0).read_unread]
      · rw [outsAt0_B m c t h (by omega) h2]; frame_out; rw [hpay2, (Memref.isWhole_whole cc0_scratch0).read_unread])
    t ((flush0_2 t).mp hf) _, zero_add]
  refine Eq.trans ?_ (ref_at _ _ _).symm
  refine Fin.sum_mul_add_congr fun s k hl => ?_
  blk_point [iblk, V, idx t, idx ⟨_, Pipeline.run_point_lt_of_flush t ((flush0_2 t).mp hf) s⟩]

/-- The kernel and the reference leave the same gradient. -/
theorem algebraic : Cert.algebraic_Kernel14Ideal_Reference14Ideal := by
  pair_intro
  · run_from Cert.Kernel14Ideal.Gen.run_main m g
  · run_from Cert.Reference14Ideal.Value.run m' g'
    exact (final m c).symm

/-- The reference runs to its end, keeps its arguments, and leaves every semaphore counter at zero. -/
theorem frame_ref : Cert.quiescent_Reference14Ideal := by
  intro m g _
  exact (θ_run Cert.Reference14Ideal.defs _ _).mono
    (fun r h => ⟨fun c => (h c).2, sem_eq_zero_of_no_sems (by decide) r.2⟩) (Cert.Reference14Ideal.Value.run m g)

end Cert.Kernel14Ideal.WdGrad1

end
-- ==== Proof.FfnInGrad1.lean ====
/- The gradient of the first feed-forward block's input half (`ffn1_in_bwd`): the cotangent of the normed row is summed over the
   weight's four blocks in a scratch; then the row's gradient is added to the residual's cotangent, and the scale's gradient is
   summed over the four blocks of tokens. The reference takes the derivative of the norm and the product. -/
module

public import proofs.«01_k».proof.Proof.Gen.Kernel15Ideal.Value
public import proofs.«01_k».proof.Proof.Gen.Reference15Ideal.Read
public import proofs.«01_k».proof.Proof.Gen.Pre_finite15
public import proofs.«01_k».proof.Proof.Norm
public import proofs.«01_k».proof.Proof.RmsGrad
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.FfnInGrad1

open Cert.Kernel15Ideal Cert.Kernel15Ideal.Gen Cert.Norm

variable (m : (ℓ : Loc nD τ sig) → Buf (Elt Ideal) ℓ)

/-! The reference, entry by entry. -/

section
open Cert.Reference15Ideal Cert.Reference15Ideal.Read

/-- The reference's gradient of the row, over its cotangent of the normed row. -/
theorem ref_dx (x0 : FVec Ideal Cert.Reference15Ideal.S4x2x4096x704 .bf16) (x1 : FVec Ideal Cert.Reference15Ideal.S1024x5632 .bf16)
    (x2 : FVec Ideal Cert.Reference15Ideal.S4096x1024 .f32) (x3 : FVec Ideal Cert.Reference15Ideal.S1x1024 .f32)
    (x4 : FVec Ideal Cert.Reference15Ideal.S4096x1024 .f32) (r : Fin 4096) (k : Fin 1024) :
    val_main_v40 (F := Ideal) x0 x1 x2 x3 x4 (ix2 r k)
      = rdx (x4 (ix2 r k)) (fun j => x2 (ix2 r j)) (fun j => x3 (ix2 0 j)) (fun j => val_main_v20 (F := Ideal) x0 x1 (ix2 r j)) k := by
  unfold rdx rdm msE invE
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v14, val_main_v13,
    val_main_v12, val_main_v11, val_main_v10, val_main_v9, val_main_v8, val_main_v7, val_main_v6, val_main_v5, val_main_v4,
    val_main_cst, val_main_cst_0, val_main_cst_1, val_main_cst_2, val_main_cst_4, val_main_cst_5, val_main_cst_6]
  simp only [Finset.univ_unique, Finset.sum_singleton]

/-- The reference's gradient of the scale, over its cotangent of the normed row. -/
theorem ref_dg (x0 : FVec Ideal Cert.Reference15Ideal.S4x2x4096x704 .bf16) (x1 : FVec Ideal Cert.Reference15Ideal.S1024x5632 .bf16)
    (x2 : FVec Ideal Cert.Reference15Ideal.S4096x1024 .f32) (k : Fin 1024) :
    val_main_v23 (F := Ideal) x0 x1 x2 (ix2 0 k)
      = dotE (fun r : Fin 4096 => nxE (fun j => x2 (ix2 r j)) k) (fun r => val_main_v20 (F := Ideal) x0 x1 (ix2 r k)) := by
  unfold dotE nxE invE
  pointwise [val_main_v23, val_main_v22, val_main_v21, val_main_v16, val_main_v15,
    val_main_v11, val_main_v10, val_main_v9, val_main_v8, val_main_v7, val_main_v6, val_main_v5, val_main_v4,
    val_main_cst, val_main_cst_0, val_main_cst_1, val_main_cst_3]

/-- The reference's cotangent of the normed row. -/
theorem ref_d (x0 : FVec Ideal Cert.Reference15Ideal.S4x2x4096x704 .bf16) (x1 : FVec Ideal Cert.Reference15Ideal.S1024x5632 .bf16)
    (r : Fin 4096) (j : Fin 1024) :
    val_main_v20 (F := Ideal) x0 x1 (ix2 r j)
      = dotE (fun l : Fin 5632 => x0 (ix4 ⟨l.val / 704 % 4, by omega⟩ ⟨l.val / 2816, by omega⟩ r ⟨l.val % 704, by omega⟩)) (fun l => x1 (ix2 j l)) := by
  unfold dotE
  pointwise [val_main_v20, val_main_v3, val_main_v2, val_main_v1, val_main_v0]

end

/-- A sum over a half of the weight's columns, block by block. -/
theorem sum_half (f : Fin 2816 → EReal) : ∑ l, f l = ∑ e : Fin 4, ∑ k : Fin 704, f ⟨e.val * 704 + k.val, by omega⟩ :=
  (Fin.sum_mul_add_fin 4 704 f).symm

/-- A sum over the weight's columns, block by block: four blocks of the gate and of the up projection. -/
theorem sum_blocks (f : Fin 5632 → EReal) :
    ∑ l, f l = ∑ e : Fin 4, ((∑ k : Fin 704, f ⟨e.val * 704 + k.val, by omega⟩) + ∑ k : Fin 704, f ⟨2816 + (e.val * 704 + k.val), by omega⟩) := by
  rw [Finset.sum_add_distrib, ← sum_half (fun l => f ⟨l.val, by omega⟩), ← sum_half (fun l => f ⟨2816 + l.val, by omega⟩)]
  have h := Fin.sum_mul_add_fin 2 2816 f
  rw [Fin.sum_univ_two] at h
  rw [← h]
  refine congrArg₂ (fun a b : EReal => a + b) (Finset.sum_congr rfl fun l _ => congrArg f (Fin.ext ?_))
    (Finset.sum_congr rfl fun l _ => congrArg f (Fin.ext ?_))
  · show 0 * 2816 + l.val = l.val
    omega
  · show 1 * 2816 + l.val = 2816 + l.val
    omega

/-! What a point writes. -/

/-- One block's part of the cotangent of the normed row. -/
def part (A : Vec Ideal S1x2x1024x704 .bf16) (W : Vec Ideal S1x2x704x1024 .bf16) (j : S1024x1024.Idx) : EReal :=
  dotE (fun k : Fin 704 => A (ix4 0 0 (j 0) k)) (fun k => W (ix4 0 0 k (j 1)))
    + dotE (fun k : Fin 704 => A (ix4 0 1 (j 0) k)) (fun k => W (ix4 0 1 k (j 1)))

/-- The product payload at an entry. -/
theorem pay1_at (A : Vec Ideal S1x1x1024x704 .bf16) (W : Vec Ideal S1x1x704x1024 .bf16) (A' : Vec Ideal S1x1x1024x704 .bf16)
    (W' : Vec Ideal S1x1x704x1024 .bf16) (j : S1024x1024.Idx) :
    k0_pay1 A W A' W' j = dotE (fun k : Fin 704 => A (ix4 0 0 (j 0) k)) (fun k => W (ix4 0 0 k (j 1)))
      + dotE (fun k : Fin 704 => A' (ix4 0 0 (j 0) k)) (fun k => W' (ix4 0 0 k (j 1))) := by
  unfold dotE
  pointwise [k0_pay1]

/-- The inverse root mean square of a row. -/
theorem pay4_at (X : Vec Ideal S1024x1024 .f32) (r : Fin 1024) :
    k0_pay4 X (ix2 r 0) = invE (fun j => X (ix2 r j)) := by
  unfold invE
  pointwise [k0_pay4]

/-- The normed row. -/
theorem pay5_at (X : Vec Ideal S1024x1024 .f32) (r k : Fin 1024) :
    k0_pay5 X (ix2 r k) = X (ix2 r k) * invE (fun j => X (ix2 r j)) := by
  have h := pay4_at X r
  simp only [← h]
  pointwise [k0_pay5]

/-- A block's part of the scale's gradient. -/
theorem pay6_at (X d : Vec Ideal S1024x1024 .f32) (k : Fin 1024) :
    k0_pay6 X d (ix2 0 k) = dotE (fun r : Fin 1024 => d (ix2 r k)) (fun r => nxE (fun j => X (ix2 r j)) k) := by
  have h := fun r => pay5_at X r k
  unfold dotE nxE
  simp only [← h]
  pointwise [k0_pay6]

/-- The row's gradient added to the residual's cotangent. -/
theorem pay7_at (X : Vec Ideal S1024x1024 .f32) (g : Vec Ideal S1x1024 .f32) (d res : Vec Ideal S1024x1024 .f32) (r k : Fin 1024) :
    k0_pay7 X g d res (ix2 r k)
      = res (ix2 r k) + kdx (fun j => X (ix2 r j)) (fun j => g (ix2 0 j)) (fun j => d (ix2 r j)) k := by
  have h4 := pay4_at X r
  have h5 := fun j => pay5_at X r j
  unfold kdx
  simp only [← h5]
  simp only [← h4]
  pointwise [k0_pay7]

/-- The windows' block indices. -/
theorem idx : ∀ t : Fin cfg0.N, win0_0.index t = ![t.val % 4, 0, t.val / 4, 0] ∧ win0_1.index t = ![t.val % 4, 0, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

/-- The product payload over the two blocks. -/
theorem pay1_ld (A : Vec Ideal S1x2x1024x704 .bf16) (W : Vec Ideal S1x2x704x1024 .bf16) (j : S1024x1024.Idx) :
    k0_pay1 (View.ld A (Rect.unit ![0, 0, 0, 0] ![1, 1, 1024, 704] inb_S1x2x1024x704_S1x1x1024x704_0_0_0_0))
      (View.ld W (Rect.unit ![0, 0, 0, 0] ![1, 1, 704, 1024] inb_S1x2x704x1024_S1x1x704x1024_0_0_0_0))
      (View.ld A (Rect.unit ![0, 1, 0, 0] ![1, 1, 1024, 704] inb_S1x2x1024x704_S1x1x1024x704_0_1_0_0))
      (View.ld W (Rect.unit ![0, 1, 0, 0] ![1, 1, 704, 1024] inb_S1x2x704x1024_S1x1x704x1024_0_1_0_0)) j = part A W j := by
  refine (pay1_at _ _ _ _ j).trans ?_
  unfold part
  refine congrArg₂ (fun a b : EReal => a + b) (dotE_congr (fun k => ?_) fun k => ?_) (dotE_congr (fun k => ?_) fun k => ?_) <;>
    (pointwise []; blk_ext)

/-- A run's first payload is the product. -/
theorem pay2_at (A : Vec Ideal S1x1x1024x704 .bf16) (W : Vec Ideal S1x1x704x1024 .bf16) (A' : Vec Ideal S1x1x1024x704 .bf16)
    (W' : Vec Ideal S1x1x704x1024 .bf16) (j : S1024x1024.Idx) : k0_pay2 A W A' W' j = k0_pay1 A W A' W' j := by
  pointwise [k0_pay2]
  blk_ext

/-- A later payload adds the product to what the scratch held. -/
theorem pay3_at (A : Vec Ideal S1x1x1024x704 .bf16) (W : Vec Ideal S1x1x704x1024 .bf16) (A' : Vec Ideal S1x1x1024x704 .bf16)
    (W' : Vec Ideal S1x1x704x1024 .bf16) (acc : Vec Ideal S1024x1024 .f32) (j : S1024x1024.Idx) :
    k0_pay3 A W A' W' acc j = acc j + k0_pay1 A W A' W' j := by
  pointwise [k0_pay3]
  blk_ext

/-- A later block of tokens adds its part of the scale's gradient. -/
theorem pay8_at (X d : Vec Ideal S1024x1024 .f32) (acc : Vec Ideal S1x1024 .f32) (j : S1x1024.Idx) :
    k0_pay8 X d acc j = acc j + k0_pay6 X d j := by
  pointwise [k0_pay8]
  blk_ext

/-- The scratch after the last point of a run: the sum of the run's parts. -/
theorem scratch_eq (c : Dev nD) (t : Fin cfg0.N) (h : t.val % 4 = 3) (y : S1024x1024.Idx) :
    (outsAt0 m c t.val t.isLt).2.2 y
      = ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  rw [Pipeline.eq_sum_fin_of_reset_step_apply_of_flush (fun n h => (outsAt0 m c n h).2.2) 4 (fun _ => 0)
    (fun t y => part (iblk m c 0 t) (iblk m c 1 t) y)
    (fun t h j => by
      rw [outsAt0_A m c t h (by omega) (by omega)]; frame_out; rw [pay2_at, pay1_ld, zero_add])
    (fun t h j => by
      have hN := lt_of_lt_of_eq t.isLt (show cfg0.N = 16 from N_0)
      by_cases h2 : t.val % 4 = 3
      · by_cases h3 : t.val < 4
        · rw [outsAt0_C m c t h (by omega) h2 h3 (by omega)]; frame_out
          rw [pay3_at, pay1_ld, (Memref.isWhole_whole cc0_scratch0).read_unread]
        · rw [outsAt0_D m c t h (by omega) h2 h3 (by omega)]; frame_out
          rw [pay3_at, pay1_ld, (Memref.isWhole_whole cc0_scratch0).read_unread]
      · rw [outsAt0_B m c t h (by omega) h2]; frame_out
        rw [pay3_at, pay1_ld, (Memref.isWhole_whole cc0_scratch0).read_unread])
    t h y, zero_add]

/-- At the last point of a run the output block is the residual's cotangent plus the row's gradient. -/
theorem out5_eq (c : Dev nD) (t : Fin cfg0.N) (h : t.val % 4 = 3) (r k : Fin 1024) :
    (outsAt0 m c t.val t.isLt).1 (ix2 r k)
      = addE ((iblk m c 4 t : Vec Ideal S1024x1024 .f32) (ix2 r k))
        (kdx (fun j => (iblk m c 2 t : Vec Ideal S1024x1024 .f32) (ix2 r j)) (fun j => (iblk m c 3 t : Vec Ideal S1x1024 .f32) (ix2 0 j))
          (fun j => (outsAt0 m c t.val t.isLt).2.2 (ix2 r j)) k) := by
  have hN := lt_of_lt_of_eq t.isLt (show cfg0.N = 16 from N_0)
  by_cases h3 : t.val < 4
  · rw [outsAt0_C m c t (by omega) (by omega) h h3 (by omega)]
    frame_out
    exact pay7_at _ _ _ _ r k
  · rw [outsAt0_D m c t (by omega) (by omega) h h3 (by omega)]
    frame_out
    exact pay7_at _ _ _ _ r k

/-- The scale's gradient is left alone before a run's last point. -/
theorem out6_keep (c : Dev nD) (t : Fin cfg0.N) (h0 : ¬ t.val % 4 = 0) (h : ¬ t.val % 4 = 3) :
    (outsAt0 m c t.val t.isLt).2.1 = (outsAt0 m c (t.val - 1) (Nat.lt_of_le_of_lt (Nat.sub_le _ _) t.isLt)).2.1 := by
  rw [outsAt0_B m c t h0 (by omega) h]
  rfl

/-- The scale's gradient is left alone at a later run's first point. -/
theorem out6_first (c : Dev nD) (t : Fin cfg0.N) (h0 : t.val % 4 = 0) (hz : ¬ t.val = 0) :
    (outsAt0 m c t.val t.isLt).2.1 = (outsAt0 m c (t.val - 1) (Nat.lt_of_le_of_lt (Nat.sub_le _ _) t.isLt)).2.1 := by
  rw [outsAt0_A m c t h0 (by omega) (by omega)]
  rfl

/-- The first block's part of the scale's gradient. -/
theorem out6_C (c : Dev nD) (t : Fin cfg0.N) (h : t.val % 4 = 3) (h3 : t.val < 4) :
    (outsAt0 m c t.val t.isLt).2.1 = k0_pay6 (iblk m c 2 t) (outsAt0 m c t.val t.isLt).2.2 := by
  rw [outsAt0_C m c t (by omega) (by omega) h h3 (by omega)]
  frame_out

/-- A later block's part of the scale's gradient. -/
theorem out6_D (c : Dev nD) (t : Fin cfg0.N) (h : t.val % 4 = 3) (h3 : ¬ t.val < 4) (j : S1x1024.Idx) :
    (outsAt0 m c t.val t.isLt).2.1 j = addE ((outsAt0 m c (t.val - 1) (Nat.lt_of_le_of_lt (Nat.sub_le _ _) t.isLt)).2.1 j)
      (k0_pay6 (iblk m c 2 t) (outsAt0 m c t.val t.isLt).2.2 j) := by
  have hN := lt_of_lt_of_eq t.isLt (show cfg0.N = 16 from N_0)
  rw [outsAt0_D m c t (by omega) (by omega) h h3 (by omega)]
  frame_out
  rw [pay8_at]
  rfl

/-! The blocks of the arguments. -/

/-- The block of the cotangent at point `t`. -/
theorem a_at (c : Dev nD) (t : Fin cfg0.N) (q : Fin 2) (r : Fin 1024) (k : Fin 704) (e : Fin 4) (R : Fin 4096)
    (he : (e : ℕ) = t.val % 4) (hR : (R : ℕ) = 1024 * (t.val / 4) + r) :
    (iblk m c 0 t : Vec Ideal S1x2x1024x704 .bf16) (ix4 0 q r k) = m ((c.tc : Thread nD τ).loc main_arg0) (ix4 e q R k) := by
  blk_point [iblk, V, idx t]

/-- The block of the weight at point `t`. -/
theorem w_at (c : Dev nD) (t : Fin cfg0.N) (q : Fin 2) (k : Fin 704) (j : Fin 1024) (l : Fin 5632)
    (hl : (l : ℕ) = q.val * 2816 + ((t.val % 4) * 704 + k.val)) :
    (iblk m c 1 t : Vec Ideal S1x2x704x1024 .bf16) (ix4 0 q k j) = m ((c.tc : Thread nD τ).loc main_arg1) (ix2 j l) := by
  blk_point [iblk, V, idx t]

/-- The block of tokens at point `t`. -/
theorem x_at (c : Dev nD) (t : Fin cfg0.N) (r : Fin 1024) (j : Fin 1024) (R : Fin 4096) (hR : (R : ℕ) = 1024 * (t.val / 4) + r) :
    (iblk m c 2 t : Vec Ideal S1024x1024 .f32) (ix2 r j) = m ((c.tc : Thread nD τ).loc main_arg2) (ix2 R j) := by
  blk_point [iblk, V, idx t]

/-- The scale. -/
theorem g_at (c : Dev nD) (t : Fin cfg0.N) (j : Fin 1024) :
    (iblk m c 3 t : Vec Ideal S1x1024 .f32) (ix2 0 j) = m ((c.tc : Thread nD τ).loc main_arg3) (ix2 0 j) := by
  blk_point [iblk, V, idx t]

/-- The block of the residual's cotangent at point `t`. -/
theorem r_at (c : Dev nD) (t : Fin cfg0.N) (r : Fin 1024) (j : Fin 1024) (R : Fin 4096) (hR : (R : ℕ) = 1024 * (t.val / 4) + r) :
    (iblk m c 4 t : Vec Ideal S1024x1024 .f32) (ix2 r j) = m ((c.tc : Thread nD τ).loc main_arg4) (ix2 R j) := by
  blk_point [iblk, V, idx t]

open Cert.Reference15Ideal.Read (val_main_v20 val_main_v23 val_main_v40 val_main_v23_eq val_main_v40_eq)

/-- The scratch at the end of a run is the reference's cotangent of the normed rows. -/
theorem d_eq (c : Dev nD) (t : Fin cfg0.N) (h : t.val % 4 = 3) (r j : Fin 1024) (R : Fin 4096)
    (hR : (R : ℕ) = 1024 * (t.val / 4) + r) :
    (outsAt0 m c t.val t.isLt).2.2 (ix2 r j)
      = val_main_v20 (F := Ideal) (m ((c.tc : Thread nD τ).loc main_arg0)) (m ((c.tc : Thread nD τ).loc main_arg1)) (ix2 R j) := by
  rw [scratch_eq m c t h]
  refine Eq.trans ?_ (ref_d _ _ R j).symm
  unfold dotE
  rw [sum_blocks]
  refine Finset.sum_congr rfl fun s _ => ?_
  have hs : s.val < 4 := s.isLt
  unfold part
  refine congrArg₂ (fun a b : EReal => a + b) (dotE_congr (fun k => ?_) fun k => ?_) (dotE_congr (fun k => ?_) fun k => ?_)
  · have hk : k.val < 704 := k.isLt
    refine (a_at m c _ 0 r k s R ?_ ?_).trans (congrArg _ ?_)
    · change s.val = (4 * (t.val / 4) + s.val) % 4; omega
    · change R.val = 1024 * ((4 * (t.val / 4) + s.val) / 4) + r.val; omega
    · congr 1 <;> apply Fin.ext <;> dsimp only <;> omega
  · have hk : k.val < 704 := k.isLt
    refine w_at m c _ 0 k j _ ?_
    change s.val * 704 + k.val = 0 * 2816 + ((4 * (t.val / 4) + s.val) % 4 * 704 + k.val); omega
  · have hk : k.val < 704 := k.isLt
    refine (a_at m c _ 1 r k s R ?_ ?_).trans (congrArg _ ?_)
    · change s.val = (4 * (t.val / 4) + s.val) % 4; omega
    · change R.val = 1024 * ((4 * (t.val / 4) + s.val) / 4) + r.val; omega
    · congr 1 <;> apply Fin.ext <;> dsimp only <;> omega
  · have hk : k.val < 704 := k.isLt
    refine w_at m c _ 1 k j _ ?_
    change 2816 + (s.val * 704 + k.val) = 1 * 2816 + ((4 * (t.val / 4) + s.val) % 4 * 704 + k.val); omega

/-- What the precondition says: the cotangent, the weight, the row and the scale are finite. -/
theorem finite (hpre : Cert.Pre_Kernel15Ideal_finite15 m) (c : Dev nD) :
    (∀ i, IsReal (m ((c.tc : Thread nD τ).loc main_arg0) i)) ∧ (∀ i, IsReal (m ((c.tc : Thread nD τ).loc main_arg1) i))
      ∧ (∀ i, IsReal (m ((c.tc : Thread nD τ).loc main_arg2) i)) ∧ ∀ i, IsReal (m ((c.tc : Thread nD τ).loc main_arg3) i) := by
  obtain ⟨h0, h1, h2, h3⟩ := hpre c
  exact ⟨fun i => real_of_cmp (congrFun h0 i), fun i => real_of_cmp (congrFun h1 i), fun i => real_of_cmp (congrFun h2 i),
    fun i => real_of_cmp (congrFun h3 i)⟩

/-- The row's gradient after the run is the reference's. -/
theorem final_dx (hpre : Cert.Pre_Kernel15Ideal_finite15 m) (c : Dev nD) : (dats m 0 c).arrAt 5 (cfgs 0).N
    = val_main_v40 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  obtain ⟨f0, f1, f2, f3⟩ := finite m hpre c
  refine (dats m 0 c).arrAt_eq_of_covers 5 _ (by decide +kernel) fun t hf y => ?_
  have h0 : (y 0 : ℕ) < 1024 := (y 0).isLt
  have ht : t.val < 16 := lt_of_lt_of_eq t.isLt N_0
  have h3 := (flush0_5 t).mp hf
  have h := ref_dx (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    ⟨1024 * (t.val / 4) + (y 0 : ℕ), by omega⟩ (y 1)
  have hd : ∀ j, IsReal (val_main_v20 (F := Ideal) (m ((c.tc : Thread nD τ).loc main_arg0)) (m ((c.tc : Thread nD τ).loc main_arg1))
      (ix2 ⟨1024 * (t.val / 4) + (y 0 : ℕ), by omega⟩ j)) := fun j => by
    rw [ref_d]
    exact fin_sum fun l => fin_mul (f0 _) (f1 _)
  have hk := kdx_eq (m ((c.tc : Thread nD τ).loc main_arg4) (ix2 ⟨1024 * (t.val / 4) + (y 0 : ℕ), by omega⟩ (y 1)))
    (fun j => m ((c.tc : Thread nD τ).loc main_arg2) (ix2 ⟨1024 * (t.val / 4) + (y 0 : ℕ), by omega⟩ j))
    (fun j => m ((c.tc : Thread nD τ).loc main_arg3) (ix2 0 j)) _ (fun j => f2 _) (fun j => f3 _) hd (y 1)
  have ho := out5_eq m c t h3 (y 0) (y 1)
  have hr := (addE_congr (r_at m c t (y 0) (y 1) ⟨1024 * (t.val / 4) + (y 0 : ℕ), by omega⟩ rfl)
    (kdx_congr (y 1) (fun j => x_at m c t (y 0) j ⟨1024 * (t.val / 4) + (y 0 : ℕ), by omega⟩ rfl) (fun j => g_at m c t j)
      (fun j => d_eq m c t h3 (y 0) j ⟨1024 * (t.val / 4) + (y 0 : ℕ), by omega⟩ rfl))).trans (hk.trans h.symm)
  blk_simp
  rw [after0_5]
  refine Eq.trans (congrArg _ ?_) ((ho.trans hr).trans (congrArg _ ?_))
  · blk_ext
  · blk_point [idx t]

/-- A block's part of the scale's gradient, over the arguments. -/
theorem dg_at (c : Dev nD) (t : Fin cfg0.N) (h : t.val % 4 = 3) (s : ℕ) (hs4 : s < 4) (hs : s = t.val / 4) (k : Fin 1024) :
    k0_pay6 (iblk m c 2 t) (outsAt0 m c t.val t.isLt).2.2 (ix2 0 k)
      = dotE (fun r : Fin 1024 => nxE (fun j => m ((c.tc : Thread nD τ).loc main_arg2) (ix2 (⟨s * 1024 + r.val, by omega⟩ : Fin 4096) j)) k)
          (fun r => val_main_v20 (F := Ideal) (m ((c.tc : Thread nD τ).loc main_arg0)) (m ((c.tc : Thread nD τ).loc main_arg1))
            (ix2 (⟨s * 1024 + r.val, by omega⟩ : Fin 4096) k)) := by
  have hR : ∀ r : Fin 1024, s * 1024 + r.val = 1024 * (t.val / 4) + r.val := fun r => by omega
  refine (pay6_at _ _ k).trans (Eq.trans (dotE_congr (fun r => d_eq m c t h r k ⟨s * 1024 + r.val, by omega⟩ (hR r))
    (fun r => nxE_congr k fun j => x_at m c t r j ⟨s * 1024 + r.val, by omega⟩ (hR r))) (dotE_comm _ _))

/-- Equal points leave equal contents. -/
theorem outs_congr (c : Dev nD) {a b : ℕ} (h : a = b) (ha : a < cfg0.N) (hb : b < cfg0.N) : outsAt0 m c a ha = outsAt0 m c b hb := by
  subst h; rfl

/-- Over a run that is not the first the scale's gradient grows by the block's part. -/
theorem out6_step (c : Dev nD) (t : Fin cfg0.N) (h : t.val % 4 = 3) (h3 : ¬ t.val < 4) (n : ℕ) (hn : n < cfg0.N) (e : n = t.val - 1 - 1 - 1 - 1)
    (j : S1x1024.Idx) : (outsAt0 m c t.val t.isLt).2.1 j = addE ((outsAt0 m c n hn).2.1 j)
      (k0_pay6 (iblk m c 2 t) (outsAt0 m c t.val t.isLt).2.2 j) := by
  subst e
  rw [out6_D m c t h h3 j]
  have e1 := out6_keep m c ⟨t.val - 1, by omega⟩ (by dsimp only; omega) (by dsimp only; omega)
  have e2 := out6_keep m c ⟨t.val - 1 - 1, by omega⟩ (by dsimp only; omega) (by dsimp only; omega)
  have e3 := out6_first m c ⟨t.val - 1 - 1 - 1, by omega⟩ (by dsimp only; omega) (by dsimp only; omega)
  exact addE_congr (congrFun (e1.trans (e2.trans e3)) j) rfl

/-- The scale's gradient after the last point. -/
theorem dg_total (c : Dev nD) (t3 t7 t11 t : Fin cfg0.N) (h3 : t3.val = 3) (h7 : t7.val = 7) (h11 : t11.val = 11) (h15 : t.val = 15) (k : Fin 1024) :
    (outsAt0 m c t.val t.isLt).2.1 (ix2 0 k) = val_main_v23 (F := Ideal) (m ((c.tc : Thread nD τ).loc main_arg0))
      (m ((c.tc : Thread nD τ).loc main_arg1)) (m ((c.tc : Thread nD τ).loc main_arg2)) (ix2 0 k) := by
  rw [ref_dg, dotE_blocks, out6_step m c t (by omega) (by omega) t11.val t11.isLt (by omega),
    out6_step m c t11 (by omega) (by omega) t7.val t7.isLt (by omega), out6_step m c t7 (by omega) (by omega) t3.val t3.isLt (by omega),
    out6_C m c t3 (by omega) (by omega), dg_at m c t3 (by omega) 0 (by omega) (by omega) k, dg_at m c t7 (by omega) 1 (by omega) (by omega) k,
    dg_at m c t11 (by omega) 2 (by omega) (by omega) k, dg_at m c t (by omega) 3 (by omega) (by omega) k]

/-- The scale's gradient after the run is the reference's. -/
theorem final_dg (c : Dev nD) : (dats m 0 c).arrAt 6 (cfgs 0).N
    = val_main_v23 (F := Ideal) (m ((c.tc : Thread nD τ).loc main_arg0)) (m ((c.tc : Thread nD τ).loc main_arg1))
        (m ((c.tc : Thread nD τ).loc main_arg2)) := by
  refine (dats m 0 c).arrAt_eq_of_covers 6 _ (by decide +kernel) fun t hf y => ?_
  have hN : cfg0.N = 16 := N_0
  have ht : t.val < 16 := lt_of_lt_of_eq t.isLt N_0
  have h15 := (flush0_6 t).mp hf
  have h := dg_total m c ⟨3, by rw [hN]; decide⟩ ⟨7, by rw [hN]; decide⟩ ⟨11, by rw [hN]; decide⟩ t rfl rfl rfl (by omega) (y 1)
  blk_simp
  rw [after0_6]
  refine Eq.trans (congrArg _ ?_) (h.trans (congrArg _ ?_))
  · blk_ext
  · blk_point [idx t]

/-- The kernel and the reference leave the same gradients. -/
theorem algebraic : Cert.algebraic_Kernel15Ideal_Reference15Ideal_pre_finite15 := by
  pair_intro
  · run_from Cert.Kernel15Ideal.Gen.run_main m g
  · refine (θ_run Cert.Reference15Ideal.defs _ _).mono (fun r h c => ?_) (Cert.Reference15Ideal.Value.run m' g')
    have hc := h c
    obtain ⟨a0, a1, a2, a3, a4⟩ := hagree c
    refine ⟨(hc.1.trans (val_main_v40_eq m' c)).trans (Eq.trans ?_ (final_dx m hpre c).symm),
      (hc.2.1.trans (val_main_v23_eq _ _ _)).trans (Eq.trans ?_ (final_dg m c).symm), hc.2.2⟩
    · rw [a0, a1, a2, a3, a4]
    · rw [a0, a1, a2]

/-- The reference runs to its end, keeps its arguments, and leaves every semaphore counter at zero. -/
theorem frame_ref : Cert.quiescent_Reference15Ideal := by
  intro m g _
  exact (θ_run Cert.Reference15Ideal.defs _ _).mono
    (fun r h => ⟨fun c => (h c).2.2, sem_eq_zero_of_no_sems (by decide) r.2⟩) (Cert.Reference15Ideal.Value.run m g)

end Cert.Kernel15Ideal.FfnInGrad1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Pre_finite8
public import proofs.«01_k».proof.Proof.Gen.Pre_finite9
public import proofs.«01_k».proof.Proof.Gen.Pre_finite10
public import proofs.«01_k».proof.Proof.Gen.Pre_finite15
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.R2Bwd
public import proofs.«01_k».proof.Proof.R2Fwd
public import proofs.«01_k».proof.Proof.WdGrad
public import proofs.«01_k».proof.Proof.WgGrad
public import proofs.«01_k».proof.Proof.FfnIn
public import proofs.«01_k».proof.Proof.WoutGrad
public import proofs.«01_k».proof.Proof.WinGrad
public import proofs.«01_k».proof.Proof.FfnInGrad
public import proofs.«01_k».proof.Proof.MixInGrad
public import proofs.«01_k».proof.Proof.MixOutGrad
public import proofs.«01_k».proof.Proof.FfnOut
public import proofs.«01_k».proof.Proof.MixIn
public import proofs.«01_k».proof.Proof.MixOut
public import proofs.«01_k».proof.Proof.WdGrad1
public import proofs.«01_k».proof.Proof.FfnInGrad1
public import Idealize.ShloMosaic.Adequacy
public import Idealize.ShloMosaic.Init

@[expose] public section

noncomputable section

namespace Cert.Proof

open Idealize.ShloMosaic Idealize.SL.Sem

/-- The certificate: the given frames of every program, its preservation, and the agreement of every kernel with its reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite8.Gen.facts, Cert.Pre_finite9.Gen.facts, Cert.Pre_finite10.Gen.facts,
    Cert.Pre_finite15.Gen.facts,
    fun m ρ _ => Cert.Kernel.Gen.frame m ρ, fun m ρ _ => Cert.KernelIdeal.Gen.frame m ρ,
    Cert.KernelIdeal.R2Bwd.frame_ref,
    fun m ρ _ => Cert.Kernel2.Gen.frame m ρ, fun m ρ _ => Cert.Kernel2Ideal.Gen.frame m ρ,
    Cert.Kernel2Ideal.R2Fwd.frame_ref,
    fun m ρ _ => Cert.Kernel3.Gen.frame m ρ, fun m ρ _ => Cert.Kernel3Ideal.Gen.frame m ρ,
    Cert.Kernel3Ideal.WdGrad.frame_ref,
    fun m ρ _ => Cert.Kernel4.Gen.frame m ρ, fun m ρ _ => Cert.Kernel4Ideal.Gen.frame m ρ,
    Cert.Kernel4Ideal.WgGrad.frame_ref,
    fun m ρ _ => Cert.Kernel5.Gen.frame m ρ, fun m ρ _ => Cert.Kernel5Ideal.Gen.frame m ρ,
    Cert.Kernel5Ideal.FfnIn.frame_ref,
    fun m ρ _ => Cert.Kernel6.Gen.frame m ρ, fun m ρ _ => Cert.Kernel6Ideal.Gen.frame m ρ,
    Cert.Kernel6Ideal.WoutGrad.frame_ref,
    fun m ρ _ => Cert.Kernel7.Gen.frame m ρ, fun m ρ _ => Cert.Kernel7Ideal.Gen.frame m ρ,
    Cert.Kernel7Ideal.WinGrad.frame_ref,
    fun m ρ _ => Cert.Kernel8.Gen.frame m ρ, fun m ρ _ => Cert.Kernel8Ideal.Gen.frame m ρ,
    fun m ρ _ => Cert.Kernel8Ideal.Gen.frame m ρ,
    Cert.Kernel8Ideal.FfnInGrad.frame_ref,
    fun m ρ _ => Cert.Kernel8Ideal.FfnInGrad.frame_ref m ρ trivial,
    fun m ρ _ => Cert.Kernel9.Gen.frame m ρ, fun m ρ _ => Cert.Kernel9Ideal.Gen.frame m ρ,
    fun m ρ _ => Cert.Kernel9Ideal.Gen.frame m ρ,
    Cert.Kernel9Ideal.MixInGrad.frame_ref,
    fun m ρ _ => Cert.Kernel9Ideal.MixInGrad.frame_ref m ρ trivial,
    fun m ρ _ => Cert.Kernel10.Gen.frame m ρ, fun m ρ _ => Cert.Kernel10Ideal.Gen.frame m ρ,
    fun m ρ _ => Cert.Kernel10Ideal.Gen.frame m ρ,
    Cert.Kernel10Ideal.MixOutGrad.frame_ref,
    fun m ρ _ => Cert.Kernel10Ideal.MixOutGrad.frame_ref m ρ trivial,
    fun m ρ _ => Cert.Kernel11.Gen.frame m ρ, fun m ρ _ => Cert.Kernel11Ideal.Gen.frame m ρ,
    Cert.Kernel11Ideal.FfnOut.frame_ref,
    fun m ρ _ => Cert.Kernel12.Gen.frame m ρ, fun m ρ _ => Cert.Kernel12Ideal.Gen.frame m ρ,
    Cert.Kernel12Ideal.MixIn.frame_ref,
    fun m ρ _ => Cert.Kernel13.Gen.frame m ρ, fun m ρ _ => Cert.Kernel13Ideal.Gen.frame m ρ,
    Cert.Kernel13Ideal.MixOut.frame_ref,
    fun m ρ _ => Cert.Kernel14.Gen.frame m ρ, fun m ρ _ => Cert.Kernel14Ideal.Gen.frame m ρ,
    Cert.Kernel14Ideal.WdGrad1.frame_ref,
    fun m ρ _ => Cert.Kernel15.Gen.frame m ρ, fun m ρ _ => Cert.Kernel15Ideal.Gen.frame m ρ,
    fun m ρ _ => Cert.Kernel15Ideal.Gen.frame m ρ,
    Cert.Kernel15Ideal.FfnInGrad1.frame_ref,
    fun m ρ _ => Cert.Kernel15Ideal.FfnInGrad1.frame_ref m ρ trivial,
    trivial, Cert.KernelIdeal.R2Bwd.algebraic,
    trivial, Cert.Kernel2Ideal.R2Fwd.algebraic,
    trivial, Cert.Kernel3Ideal.WdGrad.algebraic,
    trivial, Cert.Kernel4Ideal.WgGrad.algebraic,
    trivial, Cert.Kernel5Ideal.FfnIn.algebraic,
    trivial, Cert.Kernel6Ideal.WoutGrad.algebraic,
    trivial, Cert.Kernel7Ideal.WinGrad.algebraic,
    trivial, Cert.Kernel8Ideal.FfnInGrad.algebraic,
    trivial, Cert.Kernel9Ideal.MixInGrad.algebraic,
    trivial, Cert.Kernel10Ideal.MixOutGrad.algebraic,
    trivial, Cert.Kernel11Ideal.FfnOut.algebraic,
    trivial, Cert.Kernel12Ideal.MixIn.algebraic,
    trivial, Cert.Kernel13Ideal.MixOut.algebraic,
    trivial, Cert.Kernel14Ideal.WdGrad1.algebraic,
    trivial, Cert.Kernel15Ideal.FfnInGrad1.algebraic⟩

end Cert.Proof

end
